-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_v9_5) = v5 c
          ∧ r.2.mem ((c.tc : Thread Cert.ReferenceIdeal.nD Cert.ReferenceIdeal.τ).loc Cert.ReferenceIdeal.main_v9_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S9x2048x512 : Shape := ⟨3, ![9, 2048, 512]⟩
abbrev S_ : Shape := ⟨0, ![]⟩

class Facts : Prop where
  bitsLt_bf16_f32 : FTy.bits .bf16 < FTy.bits .f32
  bcast_S_S9x2048x512 : S_.BroadcastsInDim S9x2048x512 (![] : Fin 0 → Fin S9x2048x512.rank)
  reducesTo_S9x2048x512_S_d0_1_2 : S9x2048x512.ReducesTo [0, 1, 2] S_
  h_S_ : 0 < S_.numel

variable [Facts]

def fn_part1 {F : FTy → Type} [FloatOps F] (main_arg2 : FVec F S9x2048x512 .bf16) (main_v10 : IVec S_ 1) (main_v12 : FVec F S9x2048x512 .f32) (main_v14 : IVec S9x2048x512 1) (main_v16 : IVec S9x2048x512 1) (main_cst_4 : FVec F S_ .f32) : IVec S_ 1 :=
  let main_v17 : FVec F S9x2048x512 .f32 := broadcastInDim S9x2048x512 ![] bcast_S_S9x2048x512 main_cst_4
  let main_v18 : IVec S9x2048x512 1 := cmpf .ole main_v12 main_v17
  let main_v19 : IVec S9x2048x512 1 := andi main_v16 main_v18
  let main_v20 : IVec S9x2048x512 1 := ori main_v14 main_v19
  let main_c_5 : IVec S_ 1 := constantI S_ 1 1#1
  let main_v21 : IVec S_ 1 := (fun x v => Host.reduce IntOp.andi x v reducesTo_S9x2048x512_S_d0_1_2 h_S_) main_v20 main_c_5
  let main_v22 : IVec S_ 1 := andi main_v10 main_v21
  let main_v23 : FVec F S9x2048x512 .f32 := (extf .f32 · bitsLt_bf16_f32) main_arg2
  let main_v24 : FVec F S9x2048x512 .f32 := Host.absf main_v23
  let main_cst_6 : FVec F S_ .f32 := constant S_ .f32 0x00000000#32
  let main_v25 : FVec F S9x2048x512 .f32 := broadcastInDim S9x2048x512 ![] bcast_S_S9x2048x512 main_cst_6
  let main_v26 : IVec S9x2048x512 1 := cmpf .oeq main_v24 main_v25
  let main_cst_7 : FVec F S_ .f32 := constant S_ .f32 0x05000000#32
  let main_v27 : FVec F S9x2048x512 .f32 := broadcastInDim S9x2048x512 ![] bcast_S_S9x2048x512 main_cst_7
  let main_v28 : IVec S9x2048x512 1 := cmpf .oge main_v24 main_v27
  let main_cst_8 : FVec F S_ .f32 := constant S_ .f32 0x7F7F0000#32
  let main_v29 : FVec F S9x2048x512 .f32 := broadcastInDim S9x2048x512 ![] bcast_S_S9x2048x512 main_cst_8
  let main_v30 : IVec S9x2048x512 1 := cmpf .ole main_v24 main_v29
  let main_v31 : IVec S9x2048x512 1 := andi main_v28 main_v30
  let main_v32 : IVec S9x2048x512 1 := ori main_v26 main_v31
  let main_c_9 : IVec S_ 1 := constantI S_ 1 1#1
  let main_v33 : IVec S_ 1 := (fun x v => Host.reduce IntOp.andi x v reducesTo_S9x2048x512_S_d0_1_2 h_S_) main_v32 main_c_9
  let main_v34 : IVec S_ 1 := andi main_v22 main_v33
  main_v34

def fn {F : FTy → Type} [FloatOps F] (main_arg0 : FVec F S9x2048x512 .bf16) (main_arg1 : FVec F S9x2048x512 .bf16) (main_arg2 : FVec F S9x2048x512 .bf16) : IVec S_ 1 :=
  let main_v0 : FVec F S9x2048x512 .f32 := (extf .f32 · bitsLt_bf16_f32) main_arg0
  let main_v1 : FVec F S9x2048x512 .f32 := Host.absf main_v0
  let main_cst : FVec F S_ .f32 := constant S_ .f32 0x00000000#32
  let main_v2 : FVec F S9x2048x512 .f32 := broadcastInDim S9x2048x512 ![] bcast_S_S9x2048x512 main_cst
  let main_v3 : IVec S9x2048x512 1 := cmpf .oeq main_v1 main_v2
  let main_cst_0 : FVec F S_ .f32 := constant S_ .f32 0x05000000#32
  let main_v4 : FVec F S9x2048x512 .f32 := broadcastInDim S9x2048x512 ![] bcast_S_S9x2048x512 main_cst_0
  let main_v5 : IVec S9x2048x512 1 := cmpf .oge main_v1 main_v4
  let main_cst_1 : FVec F S_ .f32 := constant S_ .f32 0x7F7F0000#32
  let main_v6 : FVec F S9x2048x512 .f32 := broadcastInDim S9x2048x512 ![] bcast_S_S9x2048x512 main_cst_1
  let main_v7 : IVec S9x2048x512 1 := cmpf .ole main_v1 main_v6
  let main_v8 : IVec S9x2048x512 1 := andi main_v5 main_v7
  let main_v9 : IVec S9x2048x512 1 := ori main_v3 main_v8
  let main_c : IVec S_ 1 := constantI S_ 1 1#1
  let main_v10 : IVec S_ 1 := (fun x v => Host.reduce IntOp.andi x v reducesTo_S9x2048x512_S_d0_1_2 h_S_) main_v9 main_c
  let main_v11 : FVec F S9x2048x512 .f32 := (extf .f32 · bitsLt_bf16_f32) main_arg1
  let main_v12 : FVec F S9x2048x512 .f32 := Host.absf main_v11
  let main_cst_2 : FVec F S_ .f32 := constant S_ .f32 0x00000000#32
  let main_v13 : FVec F S9x2048x512 .f32 := broadcastInDim S9x2048x512 ![] bcast_S_S9x2048x512 main_cst_2
  let main_v14 : IVec S9x2048x512 1 := cmpf .oeq main_v12 main_v13
  let main_cst_3 : FVec F S_ .f32 := constant S_ .f32 0x05000000#32
  let main_v15 : FVec F S9x2048x512 .f32 := broadcastInDim S9x2048x512 ![] bcast_S_S9x2048x512 main_cst_3
  let main_v16 : IVec S9x2048x512 1 := cmpf .oge main_v12 main_v15
  let main_cst_4 : FVec F S_ .f32 := constant S_ .f32 0x7F7F0000#32
  fn_part1 (F := F) main_arg2 main_v10 main_v12 main_v14 main_v16 main_cst_4
-- ==== Kernel.lean ====
abbrev S9x2048x512 : Shape := ⟨3, ![9, 2048, 512]⟩
abbrev S9x8x64x2048 : Shape := ⟨4, ![9, 8, 64, 2048]⟩
abbrev S9x8x2048 : Shape := ⟨3, ![9, 8, 2048]⟩
abbrev S9x8x64 : Shape := ⟨3, ![9, 8, 64]⟩
abbrev S1x2048x128 : Shape := ⟨3, ![1, 2048, 128]⟩
abbrev S1x2x64x2048 : Shape := ⟨4, ![1, 2, 64, 2048]⟩
abbrev S1x8x2048 : Shape := ⟨3, ![1, 8, 2048]⟩
abbrev S1x8x64 : Shape := ⟨3, ![1, 8, 64]⟩
abbrev S2x128x2048 : Shape := ⟨3, ![2, 128, 2048]⟩
abbrev S2048x128 : Shape := ⟨2, ![2048, 128]⟩
abbrev S2x2048x128 : Shape := ⟨3, ![2, 2048, 128]⟩
abbrev S2048x256 : Shape := ⟨2, ![2048, 256]⟩
abbrev S128x2048 : Shape := ⟨2, ![128, 2048]⟩
abbrev S64x2048 : Shape := ⟨2, ![64, 2048]⟩
abbrev S2048 : Shape := ⟨1, ![2048]⟩
abbrev S1x2048 : Shape := ⟨2, ![1, 2048]⟩
abbrev S1x1x64x2048 : Shape := ⟨4, ![1, 1, 64, 2048]⟩
abbrev S1x1x2048 : Shape := ⟨3, ![1, 1, 2048]⟩
abbrev S1x128x2048 : Shape := ⟨3, ![1, 128, 2048]⟩
abbrev S64 : Shape := ⟨1, ![64]⟩
abbrev S64x1 : Shape := ⟨2, ![64, 1]⟩
abbrev S64x128 : Shape := ⟨2, ![64, 128]⟩
abbrev S128x64 : Shape := ⟨2, ![128, 64]⟩
abbrev S1x64 : Shape := ⟨2, ![1, 64]⟩
abbrev S1x1x64 : Shape := ⟨3, ![1, 1, 64]⟩
abbrev S1x128x256 : Shape := ⟨3, ![1, 128, 256]⟩
abbrev S128x256 : Shape := ⟨2, ![128, 256]⟩
abbrev S256x128 : Shape := ⟨2, ![256, 128]⟩
abbrev S256x256 : Shape := ⟨2, ![256, 256]⟩
abbrev S1x256x128 : Shape := ⟨3, ![1, 256, 128]⟩
abbrev S32x8x256 : Shape := ⟨3, ![32, 8, 256]⟩
abbrev S8x256 : Shape := ⟨2, ![8, 256]⟩
abbrev S1x1x256 : Shape := ⟨3, ![1, 1, 256]⟩
abbrev S1x256 : Shape := ⟨2, ![1, 256]⟩
abbrev S256 : Shape := ⟨1, ![256]⟩
abbrev S64x256 : Shape := ⟨2, ![64, 256]⟩
abbrev S1x1x64x256 : Shape := ⟨4, ![1, 1, 64, 256]⟩

abbrev nBuf : Space → Nat
  | .hbm => 10
  | .vmem => 25
  | .smem => 0
  | _ => 0

abbrev bufTy : (tb : Table) → Fin (tcTables nBuf tb) → BufTy
  | .hbm, ⟨0, _⟩ => ⟨S9x2048x512, .bf16⟩
  | .hbm, ⟨1, _⟩ => ⟨S9x2048x512, .bf16⟩
  | .hbm, ⟨2, _⟩ => ⟨S9x2048x512, .bf16⟩
  | .hbm, ⟨3, _⟩ => ⟨S9x2048x512, .bf16⟩
  | .hbm, ⟨4, _⟩ => ⟨S9x8x64x2048, .fp8e4m3⟩
  | .hbm, ⟨5, _⟩ => ⟨S9x8x2048, .f32⟩
  | .hbm, ⟨6, _⟩ => ⟨S9x8x64x2048, .fp8e4m3⟩
  | .hbm, ⟨7, _⟩ => ⟨S9x8x2048, .f32⟩
  | .hbm, ⟨8, _⟩ => ⟨S9x8x64x2048, .fp8e4m3⟩
  | .hbm, ⟨9, _⟩ => ⟨S9x8x64, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2x64x2048, .fp8e4m3⟩
  | .local _ .vmem, ⟨9, _⟩ => ⟨S1x2x64x2048, .fp8e4m3⟩
  | .local _ .vmem, ⟨10, _⟩ => ⟨S1x8x2048, .f32⟩
  | .local _ .vmem, ⟨11, _⟩ => ⟨S1x8x2048, .f32⟩
  | .local _ .vmem, ⟨12, _⟩ => ⟨S1x2x64x2048, .fp8e4m3⟩
  | .local _ .vmem, ⟨13, _⟩ => ⟨S1x2x64x2048, .fp8e4m3⟩
  | .local _ .vmem, ⟨14, _⟩ => ⟨S1x8x2048, .f32⟩
  | .local _ .vmem, ⟨15, _⟩ => ⟨S1x8x2048, .f32⟩
  | .local _ .vmem, ⟨16, _⟩ => ⟨S1x2x64x2048, .fp8e4m3⟩
  | .local _ .vmem, ⟨17, _⟩ => ⟨S1x2x64x2048, .fp8e4m3⟩
  | .local _ .vmem, ⟨18, _⟩ => ⟨S1x8x64, .f32⟩
  | .local _ .vmem, ⟨19, _⟩ => ⟨S1x8x64, .f32⟩
  | .local _ .vmem, ⟨20, _⟩ => ⟨S2x128x2048, .fp8e4m3⟩
  | .local _ .vmem, ⟨21, _⟩ => ⟨S2048x128, .fp8e4m3⟩
  | .local _ .vmem, ⟨22, _⟩ => ⟨S2x2048x128, .f32⟩
  | .local _ .vmem, ⟨23, _⟩ => ⟨S2048x256, .f32⟩
  | .local _ .vmem, ⟨24, _⟩ => ⟨S128x2048, .f32⟩
  | _, _ => ⟨S9x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 4], ![false, false]⟩

def k0_off1 (i : grid0.Coords) (c0_i32 : BitVec 32) : Fin 3 → Nat :=
  let c0_28 : Index := 0#32
  let arg1 : BitVec 32 := BitVec.ofNat 32 (i 1).val
  let c2_i32 : BitVec 32 := 2#32
  let v12 : BitVec 32 := Scalar.muli arg1 c2_i32
  let v13 : BitVec 32 := Scalar.addi v12 c0_i32
  let v104 : Index := Scalar.indexCast v13
  let c0_29 : Index := 0#32
  ![0, v104.toNat, 0]
def k0_off2 (i : grid0.Coords) (c0_i32 : BitVec 32) : Fin 3 → Nat :=
  let c0_103 : Index := 0#32
  let arg1 : BitVec 32 := BitVec.ofNat 32 (i 1).val
  let c2_i32 : BitVec 32 := 2#32
  let v12 : BitVec 32 := Scalar.muli arg1 c2_i32
  let v13 : BitVec 32 := Scalar.addi v12 c0_i32
  let v307 : Index := Scalar.indexCast v13
  let c0_104 : Index := 0#32
  ![0, v307.toNat, 0]
@[reducible] def k0_t1_loop : Scf.Loop 32 :=
  let c0_i32_219 : BitVec 32 := 0#32
  let c8_i32_220 : BitVec 32 := 8#32
  let v619 : BitVec 32 := Scalar.addi c0_i32_219 c8_i32_220
  let c1_i32_221 : BitVec 32 := 1#32
  ⟨c0_i32_219, v619, c1_i32_221⟩
def k0_mult1 (k0_t1 : Fin k0_t1_loop.trips) : BitVec 32 :=
  let c0_i32_219 : BitVec 32 := 0#32
  let c1_i32_221 : BitVec 32 := 1#32
  let arg17 : BitVec 32 := Scf.iv c0_i32_219 c1_i32_221 k0_t1
  let c256_i32 : BitVec 32 := 256#32
  let v629 : BitVec 32 := Scalar.muli arg17 c256_i32
  v629
def k0_off3 (k0_t1 : Fin k0_t1_loop.trips) : Fin 3 → Nat :=
  let c0_234 : Index := 0#32
  let c0_235 : Index := 0#32
  let c0_i32_219 : BitVec 32 := 0#32
  let c1_i32_221 : BitVec 32 := 1#32
  let arg17 : BitVec 32 := Scf.iv c0_i32_219 c1_i32_221 k0_t1
  let c256_i32 : BitVec 32 := 256#32
  let v629 : BitVec 32 := Scalar.muli arg17 c256_i32
  let v630 : BitVec 32 := v629
  let v631 : Index := Scalar.indexCast v630
  ![0, 0, v631.toNat]
def k0_off4 (i : grid0.Coords) (k0_t1 : Fin k0_t1_loop.trips) : Fin 3 → Nat :=
  let c0_301 : Index := 0#32
  let arg1 : BitVec 32 := BitVec.ofNat 32 (i 1).val
  let c2_i32_217 : BitVec 32 := 2#32
  let v617 : BitVec 32 := Scalar.muli arg1 c2_i32_217
  let c0_i32_218 : BitVec 32 := 0#32
  let v618 : BitVec 32 := Scalar.addi v617 c0_i32_218
  let v729 : Index := Scalar.indexCast v618
  let c0_i32_219 : BitVec 32 := 0#32
  let c1_i32_221 : BitVec 32 := 1#32
  let arg17 : BitVec 32 := Scf.iv c0_i32_219 c1_i32_221 k0_t1
  let c256_i32 : BitVec 32 := 256#32
  let v629 : BitVec 32 := Scalar.muli arg17 c256_i32
  let v630 : BitVec 32 := v629
  let v730 : Index := Scalar.indexCast v630
  ![0, v729.toNat, v730.toNat]
def k0_off5 (k0_t1 : Fin k0_t1_loop.trips) : Fin 2 → Nat :=
  let c0_373 : Index := 0#32
  let c0_i32_219 : BitVec 32 := 0#32
  let c1_i32_221 : BitVec 32 := 1#32
  let arg17 : BitVec 32 := Scf.iv c0_i32_219 c1_i32_221 k0_t1
  let c256_i32 : BitVec 32 := 256#32
  let v629 : BitVec 32 := Scalar.muli arg17 c256_i32
  let v630 : BitVec 32 := v629
  let v863 : Index := Scalar.indexCast v630
  ![0, v863.toNat]
@[reducible] def k0_t2_loop : Scf.Loop 32 :=
  let c0_i32_225 : BitVec 32 := 0#32
  let c8_i32_226 : BitVec 32 := 8#32
  let v622 : BitVec 32 := Scalar.addi c0_i32_225 c8_i32_226
  let c1_i32_227 : BitVec 32 := 1#32
  ⟨c0_i32_225, v622, c1_i32_227⟩
def k0_mult2 (k0_t2 : Fin k0_t2_loop.trips) : BitVec 32 :=
  let c0_i32_225 : BitVec 32 := 0#32
  let c1_i32_227 : BitVec 32 := 1#32
  let arg17 : BitVec 32 := Scf.iv c0_i32_225 c1_i32_227 k0_t2
  let c256_i32 : BitVec 32 := 256#32
  let v629 : BitVec 32 := Scalar.muli arg17 c256_i32
  v629
def k0_off6 (k0_t2 : Fin k0_t2_loop.trips) : Fin 3 → Nat :=
  let c1_234 : Index := 1#32
  let c0_235 : Index := 0#32
  let c0_i32_225 : BitVec 32 := 0#32
  let c1_i32_227 : BitVec 32 := 1#32
  let arg17 : BitVec 32 := Scf.iv c0_i32_225 c1_i32_227 k0_t2
  let c256_i32 : BitVec 32 := 256#32
  let v629 : BitVec 32 := Scalar.muli arg17 c256_i32
  let v630 : BitVec 32 := v629
  let v631 : Index := Scalar.indexCast v630
  ![1, 0, v631.toNat]
def k0_off7 (i : grid0.Coords) (k0_t2 : Fin k0_t2_loop.trips) : Fin 3 → Nat :=
  let c0_301 : Index := 0#32
  let arg1 : BitVec 32 := BitVec.ofNat 32 (i 1).val
  let c2_i32_223 : BitVec 32 := 2#32
  let v620 : BitVec 32 := Scalar.muli arg1 c2_i32_223
  let c1_i32_224 : BitVec 32 := 1#32
  let v621 : BitVec 32 := Scalar.addi v620 c1_i32_224
  let v729 : Index := Scalar.indexCast v621
  let c0_i32_225 : BitVec 32 := 0#32
  let c1_i32_227 : BitVec 32 := 1#32
  let arg17 : BitVec 32 := Scf.iv c0_i32_225 c1_i32_227 k0_t2
  let c256_i32 : BitVec 32 := 256#32
  let v629 : BitVec 32 := Scalar.muli arg17 c256_i32
  let v630 : BitVec 32 := v629
  let v730 : Index := Scalar.indexCast v630
  ![0, v729.toNat, v730.toNat]
def k0_off8 (k0_t2 : Fin k0_t2_loop.trips) : Fin 2 → Nat :=
  let c64 : Index := 64#32
  let c0_i32_225 : BitVec 32 := 0#32
  let c1_i32_227 : BitVec 32 := 1#32
  let arg17 : BitVec 32 := Scf.iv c0_i32_225 c1_i32_227 k0_t2
  let c256_i32 : BitVec 32 := 256#32
  let v629 : BitVec 32 := Scalar.muli arg17 c256_i32
  let v630 : BitVec 32 := v629
  let v863 : Index := Scalar.indexCast v630
  ![64, v863.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x64x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x64x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x64x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S9x2048x512 : Shape := ⟨3, ![9, 2048, 512]⟩
abbrev S9x2048x8x64 : Shape := ⟨4, ![9, 2048, 8, 64]⟩
abbrev S9x8x2048x64 : Shape := ⟨4, ![9, 8, 2048, 64]⟩
abbrev S72x2048x64 : Shape := ⟨3, ![72, 2048, 64]⟩
abbrev S9x8x64x2048 : Shape := ⟨4, ![9, 8, 64, 2048]⟩
abbrev S9x8x2048 : Shape := ⟨3, ![9, 8, 2048]⟩
abbrev S9x8x64 : Shape := ⟨3, ![9, 8, 64]⟩
abbrev S72x2048 : Shape := ⟨2, ![72, 2048]⟩
abbrev S72x2048x1 : Shape := ⟨3, ![72, 2048, 1]⟩
abbrev S72x64 : Shape := ⟨2, ![72, 64]⟩
abbrev S72x1x64 : Shape := ⟨3, ![72, 1, 64]⟩
abbrev S72x2048x2048 : Shape := ⟨3, ![72, 2048, 2048]⟩
abbrev S72x1x2048 : Shape := ⟨3, ![72, 1, 2048]⟩
abbrev S72x64x2048 : Shape := ⟨3, ![72, 64, 2048]⟩

abbrev nBuf : Space → Nat
  | .hbm => 19
  | .vmem => 10
  | .smem => 0
  | _ => 0

abbrev bufTy : (tb : Table) → Fin (tcTables nBuf tb) → BufTy
  | .hbm, ⟨0, _⟩ => ⟨S9x2048x512, .bf16⟩
  | .hbm, ⟨1, _⟩ => ⟨S9x2048x512, .bf16⟩
  | .hbm, ⟨2, _⟩ => ⟨S9x2048x512, .bf16⟩
  | .hbm, ⟨3, _⟩ => ⟨S9x2048x8x64, .bf16⟩
  | .hbm, ⟨4, _⟩ => ⟨S9x8x2048x64, .bf16⟩
  | .hbm, ⟨5, _⟩ => ⟨S72x2048x64, .bf16⟩
  | .hbm, ⟨6, _⟩ => ⟨S9x2048x8x64, .bf16⟩
  | .hbm, ⟨7, _⟩ => ⟨S9x8x2048x64, .bf16⟩
  | .hbm, ⟨8, _⟩ => ⟨S72x2048x64, .bf16⟩
  | .hbm, ⟨9, _⟩ => ⟨S9x2048x8x64, .bf16⟩
  | .hbm, ⟨10, _⟩ => ⟨S9x8x2048x64, .bf16⟩
  | .hbm, ⟨11, _⟩ => ⟨S72x2048x64, .bf16⟩
  | .hbm, ⟨12, _⟩ => ⟨S9x2048x512, .bf16⟩
  | .hbm, ⟨13, _⟩ => ⟨S9x8x64x2048, .fp8e4m3⟩
  | .hbm, ⟨14, _⟩ => ⟨S9x8x2048, .f32⟩
  | .hbm, ⟨15, _⟩ => ⟨S9x8x64x2048, .fp8e4m3⟩
  | .hbm, ⟨16, _⟩ => ⟨S9x8x2048, .f32⟩
  | .hbm, ⟨17, _⟩ => ⟨S9x8x64x2048, .fp8e4m3⟩
  | .hbm, ⟨18, _⟩ => ⟨S9x8x64, .f32⟩
  | .local _ .vmem, ⟨0, _⟩ => ⟨S72x2048x64, .bf16⟩
  | .local _ .vmem, ⟨1, _⟩ => ⟨S72x2048x64, .bf16⟩
  | .local _ .vmem, ⟨2, _⟩ => ⟨S72x2048x64, .bf16⟩
  | .local _ .vmem, ⟨3, _⟩ => ⟨S9x2048x512, .bf16⟩
  | .local _ .vmem, ⟨4, _⟩ => ⟨S9x8x64x2048, .fp8e4m3⟩
  | .local _ .vmem, ⟨5, _⟩ => ⟨S9x8x2048, .f32⟩
  | .local _ .vmem, ⟨6, _⟩ => ⟨S9x8x64x2048, .fp8e4m3⟩
  | .local _ .vmem, ⟨7, _⟩ => ⟨S9x8x2048, .f32⟩
  | .local _ .vmem, ⟨8, _⟩ => ⟨S9x8x64x2048, .fp8e4m3⟩
  | .local _ .vmem, ⟨9, _⟩ => ⟨S9x8x64, .f32⟩
  | _, _ => ⟨S9x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v9_5 : Ref sig .tc := ⟨.hbm, 17, rfl⟩
abbrev main_v9_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S72x2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x8x64x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x8x64x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x8x64x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9x8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelFrame.lean ====
/- The frame of the kernel at machine arithmetic: every execution ends with the three argument arrays as launched and every
   semaphore counter at zero. Nothing is said here of what the kernel leaves in its outputs: the seven output windows are
   forgotten. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x64x2048 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x128x2048 .fp8e4m3 := Memref.whole cc0_scratch0
abbrev scM0_1 : Memref sig .tc .vmem S2048x128 .fp8e4m3 := Memref.whole cc0_scratch1
abbrev scM0_2 : Memref sig .tc .vmem S2x2048x128 .f32 := Memref.whole cc0_scratch2
abbrev scM0_3 : Memref sig .tc .vmem S2048x256 .f32 := Memref.whole cc0_scratch3
abbrev scM0_4 : Memref sig .tc .vmem S128x2048 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 1000000 in
/-- The body's triple: on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2x64x2048 .fp8e4m3) (harg6 : arg6.IsWhole) (arg7 : Memref sig .tc .vmem S1x8x2048 .f32) (harg7 : arg7.IsWhole) (arg8 : Memref sig .tc .vmem S1x2x64x2048 .fp8e4m3) (harg8 : arg8.IsWhole) (arg9 : Memref sig .tc .vmem S1x8x2048 .f32) (harg9 : arg9.IsWhole) (arg10 : Memref sig .tc .vmem S1x2x64x2048 .fp8e4m3) (harg10 : arg10.IsWhole) (arg11 : Memref sig .tc .vmem S1x8x64 .f32) (harg11 : arg11.IsWhole) (arg12 : Memref sig .tc .vmem S2x128x2048 .fp8e4m3) (harg12 : arg12.IsWhole) (arg13 : Memref sig .tc .vmem S2048x128 .fp8e4m3) (harg13 : arg13.IsWhole) (arg14 : Memref sig .tc .vmem S2x2048x128 .f32) (harg14 : arg14.IsWhole) (arg15 : Memref sig .tc .vmem S2048x256 .f32) (harg15 : arg15.IsWhole) (arg16 : Memref sig .tc .vmem S128x2048 .f32) (harg16 : arg16.IsWhole)
    (x0 : Vec F S1x2048x128 .bf16) (x1 : Vec F S1x2048x128 .bf16) (x2 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_fp8_mha i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_fp8_mha_eq_skeleton]; unfold cc0_fp8_mha_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.KernelIdealFrame.lean ====
/- The frame of the kernel with its one named constant, over the reals: every execution ends with the three argument arrays as launched and every
   semaphore counter at zero. Nothing is said here of what the kernel leaves in its outputs: the seven output windows are
   forgotten. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

-- membership in a rectangle of production extents (`View.cover_of_tiled`): the elaborator's structural look
-- recurses once per coordinate of the long axes
set_option maxRecDepth 16384

noncomputable section

namespace Cert.KernelIdeal.FrameRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x64x2048 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x128x2048 .fp8e4m3 := Memref.whole cc0_scratch0
abbrev scM0_1 : Memref sig .tc .vmem S2048x128 .fp8e4m3 := Memref.whole cc0_scratch1
abbrev scM0_2 : Memref sig .tc .vmem S2x2048x128 .f32 := Memref.whole cc0_scratch2
abbrev scM0_3 : Memref sig .tc .vmem S2048x256 .f32 := Memref.whole cc0_scratch3
abbrev scM0_4 : Memref sig .tc .vmem S128x2048 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 1000000 in
/-- The body's triple: on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2x64x2048 .fp8e4m3) (harg6 : arg6.IsWhole) (arg7 : Memref sig .tc .vmem S1x8x2048 .f32) (harg7 : arg7.IsWhole) (arg8 : Memref sig .tc .vmem S1x2x64x2048 .fp8e4m3) (harg8 : arg8.IsWhole) (arg9 : Memref sig .tc .vmem S1x8x2048 .f32) (harg9 : arg9.IsWhole) (arg10 : Memref sig .tc .vmem S1x2x64x2048 .fp8e4m3) (harg10 : arg10.IsWhole) (arg11 : Memref sig .tc .vmem S1x8x64 .f32) (harg11 : arg11.IsWhole) (arg12 : Memref sig .tc .vmem S2x128x2048 .fp8e4m3) (harg12 : arg12.IsWhole) (arg13 : Memref sig .tc .vmem S2048x128 .fp8e4m3) (harg13 : arg13.IsWhole) (arg14 : Memref sig .tc .vmem S2x2048x128 .f32) (harg14 : arg14.IsWhole) (arg15 : Memref sig .tc .vmem S2048x256 .f32) (harg15 : arg15.IsWhole) (arg16 : Memref sig .tc .vmem S128x2048 .f32) (harg16 : arg16.IsWhole)
    (x0 : Vec F S1x2048x128 .bf16) (x1 : Vec F S1x2048x128 .bf16) (x2 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_fp8_mha i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_fp8_mha_eq_skeleton]; unfold cc0_fp8_mha_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.FrameRun

end
-- ==== Proof.Base.lean ====
/- The staging memrefs and scratch operands of the idealized kernel's body, named. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x64x2048 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x128x2048 .fp8e4m3 := Memref.whole cc0_scratch0
abbrev scM0_1 : Memref sig .tc .vmem S2048x128 .fp8e4m3 := Memref.whole cc0_scratch1
abbrev scM0_2 : Memref sig .tc .vmem S2x2048x128 .f32 := Memref.whole cc0_scratch2
abbrev scM0_3 : Memref sig .tc .vmem S2048x256 .f32 := Memref.whole cc0_scratch3
abbrev scM0_4 : Memref sig .tc .vmem S128x2048 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Run

end
-- ==== Proof.Spec.lean ====
module

public import Idealize.ShloMosaic.Lib.Pointwise
public import Idealize.ShloMosaic.PureOps.Ideal
public import Mathlib.Analysis.SpecialFunctions.Log.Basic

@[expose] public section

noncomputable section

namespace Cert.Spec

open Idealize.ShloMosaic

/-! ## The power-of-two scale and the codes of a quantised value, over the reals -/

/-- The f32 nearest to `1 / 448`, the reciprocal of the greatest fp8 value. -/
def c448 : ℝ := 9586981 / 2 ^ 32

/-- The exponent of the greatest power of two that does not exceed `x`. -/
def lg (x : ℝ) : ℤ := ⌊Real.log x / Real.log 2⌋

theorem zpow_le_iff (k : ℤ) {x : ℝ} (hx : 0 < x) : (2 : ℝ) ^ k ≤ x ↔ k ≤ lg x := by
  have h2 : 0 < Real.log 2 := Real.log_pos (by norm_num)
  rw [lg, Int.le_floor, le_div_iff₀ h2, ← Real.log_zpow, Real.log_le_log_iff (by positivity) hx]

/-- The power of two a value of greatest magnitude `a` is divided by. -/
def sc (a : ℝ) : ℝ := if a = 0 then 1 else (2 : ℝ) ^ (lg (a * c448) + 1)

/-- The code of `t` at scale `s`. -/
def code (t s : ℝ) : ℝ := min 448 (max (-448) (t * s⁻¹))

theorem c448_pos : 0 < c448 := by norm_num [c448]

theorem sc_pos (a : ℝ) : 0 < sc a := by
  unfold sc; split
  · exact one_pos
  · positivity

/-- The greatest of finitely many reals, at least one. -/
def gmax {n : Nat} [NeZero n] (f : Fin n → ℝ) : ℝ := Finset.univ.sup' ⟨0, Finset.mem_univ _⟩ f

theorem le_gmax {n : Nat} [NeZero n] (f : Fin n → ℝ) (i : Fin n) : f i ≤ gmax f := Finset.le_sup' f (Finset.mem_univ i)

theorem gmax_mem {n : Nat} [NeZero n] (f : Fin n → ℝ) : ∃ i, gmax f = f i := by
  obtain ⟨i, _, h⟩ := Finset.exists_mem_eq_sup' (s := Finset.univ) ⟨(0 : Fin n), Finset.mem_univ _⟩ f
  exact ⟨i, h⟩

theorem gmax_eq {n : Nat} [NeZero n] (f : Fin n → ℝ) (x : ℝ) (h : ∀ i, f i ≤ x) (h' : ∃ i, x = f i) : gmax f = x := by
  obtain ⟨i, rfl⟩ := h'
  exact le_antisymm (Finset.sup'_le _ _ fun j _ => h j) (le_gmax f i)

/-- A running maximum that starts at minus infinity, over finite values, is their greatest. -/
theorem fold_max_coe {n : Nat} [NeZero n] (f : Fin n → ℝ) :
    (Finset.univ.fold max (⊥ : EReal) fun k => (f k : EReal)) = (gmax f : EReal) := by
  apply le_antisymm
  · rw [Finset.fold_max_le]
    exact ⟨bot_le, fun i _ => EReal.coe_le_coe_iff.2 (le_gmax f i)⟩
  · obtain ⟨i, h⟩ := gmax_mem f
    rw [h, Finset.le_fold_max]
    exact Or.inr ⟨i, Finset.mem_univ i, le_rfl⟩

theorem coe_max (a b : ℝ) : max (a : EReal) (b : EReal) = ((max a b : ℝ) : EReal) := (EReal.coe_strictMono.monotone.map_max).symm

theorem coe_min (a b : ℝ) : min (a : EReal) (b : EReal) = ((min a b : ℝ) : EReal) := (EReal.coe_strictMono.monotone.map_min).symm

theorem abs_coe (a : ℝ) : max (a : EReal) (-(a : EReal)) = ((|a| : ℝ) : EReal) := by
  rw [← EReal.coe_neg, coe_max]; rfl

theorem coe_sum {ι : Type*} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

/-! ## The exponent field found by eight comparisons -/

/-- What the word `k <<< 23` denotes as an f32. -/
def thr (k : Nat) : EReal := if k = 255 then ⊤ else if k = 0 then 0 else (((2 : ℝ) ^ ((k : ℤ) - 127) : ℝ) : EReal)

theorem ofBits_shl (w : BitVec 32) (h : w.toNat ≤ 255) :
    (FloatOps.ofBits (F := Ideal) .f32 (IntOp.shli .vector w 23#32) : EReal) = thr w.toNat := by
  have h1 : IntOp.shli .vector w 23#32 = w <<< 23 := by unfold IntOp.shli; rfl
  rw [h1]
  show Ideal.ieee 8 23 (w <<< 23) = _
  have hv : (w <<< 23).toNat = w.toNat * 2 ^ 23 := by
    rw [BitVec.toNat_shiftLeft, Nat.shiftLeft_eq]; apply Nat.mod_eq_of_lt; omega
  generalize w <<< 23 = v at hv
  have hn : (v.extractLsb' (8 + 23) 1 == 1#1) = false := by
    rw [beq_eq_false_iff_ne]
    intro hh
    have := congrArg BitVec.toNat hh
    rw [BitVec.extractLsb'_toNat, hv, Nat.shiftRight_eq_div_pow] at this
    simp only [BitVec.toNat_ofNat] at this
    omega
  have he : (v.extractLsb' 23 8).toNat = w.toNat := by
    rw [BitVec.extractLsb'_toNat, hv, Nat.shiftRight_eq_div_pow, Nat.mul_div_cancel _ (by norm_num)]
    omega
  have hf : (v.extractLsb' 0 23).toNat = 0 := by
    rw [BitVec.extractLsb'_toNat, hv, Nat.shiftRight_eq_div_pow]
    omega
  unfold Ideal.ieee thr
  simp only [hn, he, hf]
  by_cases h255 : w.toNat = 255
  · rw [if_pos (by rw [h255]; norm_num), if_pos h255]; rfl
  · rw [if_neg (by norm_num; exact h255), if_neg h255]
    by_cases h0 : w.toNat = 0
    · rw [if_pos h0, if_pos h0]; simp
    · rw [if_neg h0, if_neg h0]
      congr 1
      have : (2 : ℝ) ^ ((w.toNat : ℤ) - 127) = (2:ℝ)^(23:ℤ) * 2 ^ ((w.toNat : ℤ) - 127 - 23) := by
        rw [← zpow_add₀ (by norm_num)]; congr 1; ring
      rw [this]; norm_num

section Field
variable {s : Shape}

/-- One comparison: the bit `b` is added to the field `f` where the value is at least the power of two it would name. -/
def vstep {F : FTy → Type} [FloatOps F] (y : FVec F s .f32) (b : BitVec 32) (f : IVec s 32) : IVec s 32 :=
  select (cmpf .oge y (bitcastToFloat .f32 (shli (addi f (broadcast s b)) (broadcast s 23#32)))) (addi f (broadcast s b)) f

/-- The field after the eight comparisons. -/
def vfield {F : FTy → Type} [FloatOps F] (y : FVec F s .f32) : IVec s 32 :=
  vstep y 1#32 (vstep y 2#32 (vstep y 4#32 (vstep y 8#32 (vstep y 16#32 (vstep y 32#32 (vstep y 64#32
    (vstep y 128#32 (broadcast s 0#32))))))))

/-- The exponent field of the scale of a quantised value, from the field `f` of its greatest magnitude over 448. -/
def vsf (f : IVec s 32) : IVec s 32 :=
  select (ori (cmpi .eq f (broadcast s 0#32)) (cmpi .eq f (broadcast s 255#32))) (broadcast s 127#32) (addi f (broadcast s 1#32))

/-- The scale. -/
def vscale {F : FTy → Type} [FloatOps F] (y : FVec F s .f32) : FVec F s .f32 :=
  bitcastToFloat .f32 (shli (vsf (vfield y)) (broadcast s 23#32))

/-- Its reciprocal. -/
def vinv {F : FTy → Type} [FloatOps F] (y : FVec F s .f32) : FVec F s .f32 :=
  bitcastToFloat .f32 (shli (subi (broadcast s 254#32) (vsf (vfield y))) (broadcast s 23#32))

theorem vstep_toNat (y : FVec Ideal s .f32) (b : BitVec 32) (f : IVec s 32) (i : s.Idx) (f0 : Nat)
    (H : ∀ k ≤ 255, thr k ≤ y i ↔ k ≤ f0) (h0 : f0 ≤ 255) (hb : 0 < b.toNat) (hf : (f i).toNat + b.toNat ≤ 255)
    (hi : (f i).toNat = f0 / (2 * b.toNat) * (2 * b.toNat)) :
    (vstep y b f i).toNat = f0 / b.toNat * b.toNat := by
  have ha : (IntOp.addi (f i) b).toNat = (f i).toNat + b.toNat := by
    show ((f i) + b).toNat = _
    rw [BitVec.toNat_add]; apply Nat.mod_eq_of_lt; omega
  have hT : (FloatOps.ofBits (F := Ideal) .f32 (IntOp.shli .vector (IntOp.addi (f i) b) 23#32) : EReal) = thr ((f i).toNat + b.toNat) := by
    rw [ofBits_shl _ (by rw [ha]; exact hf), ha]
  show (Scalar.select (BitVec.ofBool (decide ((FloatOps.ofBits (F := Ideal) .f32 (IntOp.shli .vector (IntOp.addi (f i) b) 23#32) : EReal) ≤ y i)))
    (IntOp.addi (f i) b) (f i)).toNat = _
  rw [hT, show (decide (thr ((f i).toNat + b.toNat) ≤ y i)) = decide ((f i).toNat + b.toNat ≤ f0) by simp only [H _ hf]]
  have e1 := Nat.div_add_mod f0 b.toNat
  have e2 : f0 / (2 * b.toNat) = f0 / b.toNat / 2 := by rw [mul_comm, Nat.div_div_eq_div_mul]
  have e3 := Nat.mod_lt f0 hb
  generalize hq : f0 / b.toNat = q at *
  generalize hB : b.toNat = B at *
  have e4 : f0 / (2 * B) * (2 * B) = (q / 2 * 2) * B := by rw [e2]; ring
  rw [e4] at hi
  unfold Scalar.select
  rcases Nat.mod_two_eq_zero_or_one q with h | h
  · have : q / 2 * 2 = q := by omega
    rw [this] at hi
    have : ¬ ((f i).toNat + B ≤ f0) := by rw [hi]; rw [mul_comm B q] at e1; omega
    rw [decide_eq_false this]; simpa using hi
  · have hq2 : q / 2 * 2 + 1 = q := by omega
    have hh : (f i).toNat + B = q * B := by rw [hi]; conv_rhs => rw [← hq2]
                                            ring
    have : (f i).toNat + B ≤ f0 := by rw [hh, mul_comm]; omega
    rw [decide_eq_true this]; simpa [ha] using hh

theorem vfield_toNat (y : FVec Ideal s .f32) (i : s.Idx) (f0 : Nat)
    (H : ∀ k ≤ 255, thr k ≤ y i ↔ k ≤ f0) (h0 : f0 ≤ 255) : (vfield y i).toNat = f0 := by
  have h1 := vstep_toNat y 128#32 (broadcast s 0#32) i f0 H h0 (by decide) (by show 0 + 128 ≤ 255; decide)
    (by show (0#32).toNat = f0 / (2 * 128) * (2 * 128); simp; omega)
  have e : ∀ n : Nat, f0 / n * n ≤ f0 := fun n => Nat.div_mul_le_self f0 n
  simp only [show (128#32 : BitVec 32).toNat = 128 from rfl] at h1
  have h2 := vstep_toNat y 64#32 _ i f0 H h0 (by decide) (by rw [h1]; show f0 / 128 * 128 + 64 ≤ 255; omega) h1
  simp only [show (64#32 : BitVec 32).toNat = 64 from rfl] at h2
  have h3 := vstep_toNat y 32#32 _ i f0 H h0 (by decide) (by rw [h2]; show f0 / 64 * 64 + 32 ≤ 255; omega) h2
  simp only [show (32#32 : BitVec 32).toNat = 32 from rfl] at h3
  have h4 := vstep_toNat y 16#32 _ i f0 H h0 (by decide) (by rw [h3]; show f0 / 32 * 32 + 16 ≤ 255; omega) h3
  simp only [show (16#32 : BitVec 32).toNat = 16 from rfl] at h4
  have h5 := vstep_toNat y 8#32 _ i f0 H h0 (by decide) (by rw [h4]; show f0 / 16 * 16 + 8 ≤ 255; omega) h4
  simp only [show (8#32 : BitVec 32).toNat = 8 from rfl] at h5
  have h6 := vstep_toNat y 4#32 _ i f0 H h0 (by decide) (by rw [h5]; show f0 / 8 * 8 + 4 ≤ 255; omega) h5
  simp only [show (4#32 : BitVec 32).toNat = 4 from rfl] at h6
  have h7 := vstep_toNat y 2#32 _ i f0 H h0 (by decide) (by rw [h6]; show f0 / 4 * 4 + 2 ≤ 255; omega) h6
  simp only [show (2#32 : BitVec 32).toNat = 2 from rfl] at h7
  have h8 := vstep_toNat y 1#32 _ i f0 H h0 (by decide) (by rw [h7]; show f0 / 2 * 2 + 1 ≤ 255; omega) h7
  simpa [vfield] using h8

/-- The magnitudes the precondition admits. -/
def Ok (a : ℝ) : Prop := a = 0 ∨ ((2 : ℝ) ^ (-117 : ℤ) ≤ a ∧ a < (2 : ℝ) ^ (128 : ℤ))

theorem vsf_toNat (y : FVec Ideal s .f32) (i : s.Idx) (a : ℝ) (ha : Ok a) (hy : y i = ((a * c448 : ℝ) : EReal)) :
    ∃ n : Nat, (vsf (vfield y) i).toNat = n ∧ 1 ≤ n ∧ n ≤ 253 ∧ sc a = (2 : ℝ) ^ ((n : ℤ) - 127) := by
  rcases ha with rfl | ⟨hl, hu⟩
  · have hf := vfield_toNat y i 0 (fun k hk => by
      rw [hy]; simp only [zero_mul]
      constructor
      · intro h
        by_contra hc
        have hc : k ≠ 0 := by omega
        unfold thr at h
        rw [if_neg hc] at h
        split at h
        · exact absurd h (by simp)
        · have : (0 : ℝ) < (2 : ℝ) ^ ((k : ℤ) - 127) := by positivity
          exact absurd (EReal.coe_le_coe_iff.1 h) (by linarith)
      · intro h
        obtain rfl : k = 0 := by omega
        simp [thr]) (by omega)
    have hf' : vfield y i = 0#32 := BitVec.eq_of_toNat_eq hf
    refine ⟨127, ?_, by omega, by omega, by simp [sc]⟩
    show (Scalar.select (IntOp.ori (IntOp.cmpi .eq (vfield y i) 0#32) (IntOp.cmpi .eq (vfield y i) 255#32)) 127#32 _).toNat = 127
    rw [hf']; rfl
  · have hpos : 0 < a := lt_of_lt_of_le (by positivity) hl
    set r := a * c448 with hr
    have hrpos : 0 < r := mul_pos hpos c448_pos
    have hrl : (2 : ℝ) ^ (-126 : ℤ) ≤ r := by
      have : (2 : ℝ) ^ (-126 : ℤ) ≤ (2 : ℝ) ^ (-117 : ℤ) * c448 := by norm_num [c448]
      exact this.trans (mul_le_mul_of_nonneg_right hl c448_pos.le)
    have hru : r < (2 : ℝ) ^ (120 : ℤ) := by
      have : (2 : ℝ) ^ (128 : ℤ) * c448 ≤ (2 : ℝ) ^ (120 : ℤ) := by norm_num [c448]
      exact (mul_lt_mul_of_pos_right hu c448_pos).trans_le this
    have g1 : -126 ≤ lg r := (zpow_le_iff _ hrpos).1 hrl
    have g2 : lg r < 120 := lt_of_not_ge fun h => absurd ((zpow_le_iff _ hrpos).2 h) (not_le.2 hru)
    obtain ⟨f0, hf0⟩ : ∃ f0 : Nat, (f0 : ℤ) = lg r + 127 := ⟨(lg r + 127).toNat, by omega⟩
    have hf := vfield_toNat y i f0 (fun k hk => by
      rw [hy]
      unfold thr
      split
      · rename_i h; subst h
        constructor
        · intro h; exact absurd h (by simp)
        · intro h; omega
      · split
        · rename_i h; subst h
          simp only [Nat.zero_le, iff_true]
          exact_mod_cast hrpos.le
        · rw [EReal.coe_le_coe_iff]
          rw [zpow_le_iff _ hrpos]
          omega) (by omega)
    refine ⟨f0 + 1, ?_, by omega, by omega, ?_⟩
    · have h1 : vfield y i ≠ 0#32 := fun h => by rw [h] at hf; simp at hf; omega
      have h2 : vfield y i ≠ 255#32 := fun h => by rw [h] at hf; simp at hf; omega
      have h3 : vsf (vfield y) i = IntOp.addi (vfield y i) 1#32 := by
        show Scalar.select (IntOp.ori (IntOp.cmpi .eq (vfield y i) 0#32) (IntOp.cmpi .eq (vfield y i) 255#32)) 127#32 (IntOp.addi (vfield y i) 1#32) = _
        have e1 : IntOp.cmpi .eq (vfield y i) 0#32 = 0#1 := by
          show BitVec.ofBool (vfield y i == 0#32) = 0#1
          rw [beq_eq_false_iff_ne.2 h1]; rfl
        have e2 : IntOp.cmpi .eq (vfield y i) 255#32 = 0#1 := by
          show BitVec.ofBool (vfield y i == 255#32) = 0#1
          rw [beq_eq_false_iff_ne.2 h2]; rfl
        rw [e1, e2]; rfl
      rw [h3]
      show (vfield y i + 1#32).toNat = _
      rw [BitVec.toNat_add, hf]
      simp; omega
    · rw [sc, if_neg hpos.ne']
      rw [← hr]
      congr 1
      push_cast; omega

theorem vscale_eq (y : FVec Ideal s .f32) (i : s.Idx) (a : ℝ) (ha : Ok a) (hy : y i = ((a * c448 : ℝ) : EReal)) :
    vscale y i = (sc a : EReal) := by
  obtain ⟨n, hn, h1, h2, h3⟩ := vsf_toNat y i a ha hy
  show (FloatOps.ofBits (F := Ideal) .f32 (IntOp.shli .vector (vsf (vfield y) i) 23#32) : EReal) = _
  rw [ofBits_shl _ (by omega), hn, thr, if_neg (by omega), if_neg (by omega), h3]

theorem vinv_eq (y : FVec Ideal s .f32) (i : s.Idx) (a : ℝ) (ha : Ok a) (hy : y i = ((a * c448 : ℝ) : EReal)) :
    vinv y i = (((sc a)⁻¹ : ℝ) : EReal) := by
  obtain ⟨n, hn, h1, h2, h3⟩ := vsf_toNat y i a ha hy
  have e : (IntOp.subi 254#32 (vsf (vfield y) i)).toNat = 254 - n := by
    show (254#32 - vsf (vfield y) i).toNat = _
    rw [BitVec.toNat_sub, hn]; simp; omega
  show (FloatOps.ofBits (F := Ideal) .f32 (IntOp.shli .vector (IntOp.subi 254#32 (vsf (vfield y) i)) 23#32) : EReal) = _
  rw [ofBits_shl _ (by omega), e, thr, if_neg (by omega), if_neg (by omega), h3, ← zpow_neg]
  congr 2
  push_cast [show n ≤ 254 by omega]; omega

end Field

theorem ninf : Ideal.ofBits FTy.f32 4286578688#32 = (⊥ : EReal) := by
  simp [Ideal.ofBits, Ideal.ieee]

theorem div_pos_coe (x y : ℝ) (h : 0 < y) : Ideal.div (x : EReal) (y : EReal) = ((x / y : ℝ) : EReal) := by
  rw [Ideal.div_coe h.ne', ← EReal.coe_mul]
  congr 1
  rw [mul_one_div]

/-- One entry of the attention output: `S` the scores over the keys, `v` the value codes, `w` the value scale. -/
def attn {n : ℕ} [NeZero n] (S v : Fin n → ℝ) (w : ℝ) : ℝ :=
  (∑ j, v j * Real.exp (S j - gmax S)) * w / ∑ j, Real.exp (S j - gmax S)

/-- A factor that does not depend on the key comes out of the greatest score. -/
theorem gmax_mul {n : ℕ} [NeZero n] (t : Fin n → ℝ) (c : ℝ) (hc : 0 ≤ c) : gmax (fun j => t j * c) = gmax t * c := by
  obtain ⟨i, hi⟩ := gmax_mem t
  exact gmax_eq _ _ (fun j => mul_le_mul_of_nonneg_right (le_gmax t j) hc) ⟨i, by rw [hi]⟩

/-- A common positive factor of the weights cancels. -/
theorem attn_scaled {n : ℕ} [NeZero n] (S v p : Fin n → ℝ) (w c : ℝ) (hc : 0 < c) (hp : ∀ j, p j = c * Real.exp (S j - gmax S)) :
    (∑ j, v j * p j) * w / ∑ j, p j = attn S v w := by
  have e1 : ∑ j, v j * p j = c * ∑ j, v j * Real.exp (S j - gmax S) := by
    rw [Finset.mul_sum]; exact Finset.sum_congr rfl fun j _ => by rw [hp]; ring
  have e2 : ∑ j, p j = c * ∑ j, Real.exp (S j - gmax S) := by
    rw [Finset.mul_sum]; exact Finset.sum_congr rfl fun j _ => hp j
  rw [e1, e2, attn, mul_assoc, mul_div_mul_left _ _ hc.ne']

/-- The same with powers of two, eight binades up, and the score's factor folded into the exponent. -/
theorem attn_exp2 {n : ℕ} [NeZero n] (t v : Fin n → ℝ) (s w : ℝ) (hs : 0 ≤ s) :
    (∑ j, v j * (2 : ℝ) ^ (t j * (s * ((1 / 8) * (Real.log 2)⁻¹)) - (gmax t * (s * ((1 / 8) * (Real.log 2)⁻¹)) - 8))) * w
        / ∑ j, (2 : ℝ) ^ (t j * (s * ((1 / 8) * (Real.log 2)⁻¹)) - (gmax t * (s * ((1 / 8) * (Real.log 2)⁻¹)) - 8))
      = attn (fun j => t j * (s / 8)) v w := by
  refine attn_scaled (fun j => t j * (s / 8)) v _ w (2 ^ (8 : ℝ)) (Real.rpow_pos_of_pos (by norm_num) _) fun j => ?_
  have h2 : Real.log 2 ≠ 0 := (Real.log_pos (by norm_num)).ne'
  rw [gmax_mul t (s / 8) (by positivity), Real.rpow_def_of_pos (by norm_num), Real.rpow_def_of_pos (by norm_num), ← Real.exp_add]
  congr 1
  field_simp
  ring

end Cert.Spec

end
-- ==== Proof.Quant.lean ====
/- The values the body stores of its quantised operands, over the reals: codes, scales, and the copies the products read. -/
module

public import proofs.«01_k».proof.Proof.Base
public import proofs.«01_k».proof.Proof.Spec

@[expose] public section

set_option maxRecDepth 16384

noncomputable section

namespace Cert.KernelIdeal.Quant

open Idealize.ShloMosaic Idealize.ShloMosaic.TcCoe Cert.KernelIdeal Cert.KernelIdeal.Gen Cert.Spec

section Vec
variable {F : FTy → Type} [FloatOps F]

/-- Each token's greatest magnitude over the head's channels, over 448. -/
def tok (u : FVec F S64x2048 .f32) : FVec F S1x2048 .f32 :=
  mulf (shapeCast S1x2048 (multiReduction .maximumf [0] S2048 (absf u) 0xFF800000#32 reduces_S64x2048_S2048 (.inl rfl) rfl) shapeCasts_S2048_S1x2048)
    (broadcast S1x2048 (Scalar.ofBits .f32 0x3B124925#32))

/-- Each channel's greatest magnitude over the tokens, over 448. -/
def cha (u : FVec F S64x2048 .f32) : FVec F S64x1 .f32 :=
  mulf (shapeCast S64x1 (multiReduction .maximumf [1] S64 (absf u) 0xFF800000#32 reduces_S64x2048_S64 (.inl rfl) rfl) shapeCasts_S64_S64x1)
    (broadcast S64x1 (Scalar.ofBits .f32 0x3B124925#32))

def clipped (u w : FVec F S64x2048 .f32) : FVec F S64x2048 .f32 :=
  minimumf (broadcast S64x2048 (Scalar.ofBits .f32 0x43E00000#32)) (maximumf (broadcast S64x2048 (Scalar.ofBits .f32 0xC3E00000#32)) (mulf u w))

/-- The codes of queries or keys. -/
def codesT (u : FVec F S64x2048 .f32) : FVec F S64x2048 .f32 :=
  clipped u (broadcastTo S64x2048 (vinv (tok u)) broadcasts_S1x2048_S64x2048)

/-- The codes of values. -/
def codesC (u : FVec F S64x2048 .f32) : FVec F S64x2048 .f32 :=
  clipped u (broadcastTo S64x2048 (vinv (cha u)) broadcasts_S64x1_S64x2048)

/-- One head's rows of a block with its channels first. -/
def head0 (x : Vec F S1x2048x128 .bf16) : FVec F S64x2048 .f32 :=
  extractStridedSlice S64x2048 ![0, 0] (k0_pay79 x) slices_S128x2048_o0_0_S64x2048

def head1 (x : Vec F S1x2048x128 .bf16) : FVec F S64x2048 .f32 :=
  extractStridedSlice S64x2048 ![64, 0] (k0_pay79 x) slices_S128x2048_o64_0_S64x2048

def q0code (x : Vec F S1x2048x128 .bf16) : Vec F S1x1x64x2048 .fp8e4m3 :=
  k0_pay92 (k0_pay82 x) (k0_pay88 (k0_pay83 x) (k0_pay84 x) (k0_pay85 x) k0_pay86) (k0_pay89 (k0_pay83 x) (k0_pay84 x) (k0_pay85 x) k0_pay86) 127#32

theorem q0code_eq (x : Vec F S1x2048x128 .bf16) : q0code x =
  shapeCast S1x1x64x2048 (truncf .fp8e4m3 (codesT (head0 x)) bitsLt_fp8e4m3_f32) shapeCasts_S64x2048_S1x1x64x2048 := rfl

def q0scale (x : Vec F S1x2048x128 .bf16) : Vec F S1x1x2048 .f32 :=
  k0_pay93 (k0_pay88 (k0_pay83 x) (k0_pay84 x) (k0_pay85 x) k0_pay86) (k0_pay89 (k0_pay83 x) (k0_pay84 x) (k0_pay85 x) k0_pay86) 127#32

theorem q0scale_eq (x : Vec F S1x2048x128 .bf16) : q0scale x =
  shapeCast S1x1x2048 (vscale (tok (head0 x))) shapeCasts_S1x2048_S1x1x2048 := rfl

def q0z (x : Vec F S1x2048x128 .bf16) : Vec F S1x128x2048 .fp8e4m3 :=
  k0_pay94 (k0_pay82 x) (k0_pay88 (k0_pay83 x) (k0_pay84 x) (k0_pay85 x) k0_pay86) (k0_pay89 (k0_pay83 x) (k0_pay84 x) (k0_pay85 x) k0_pay86) 127#32

theorem q0z_eq (x : Vec F S1x2048x128 .bf16) : q0z x =
  shapeCast S1x128x2048 (concatenate S128x2048 0 [⟨S64x2048, truncf .fp8e4m3 (codesT (head0 x)) bitsLt_fp8e4m3_f32⟩, ⟨S64x2048, broadcast S64x2048 (Scalar.ofBits .fp8e4m3 0x00#8)⟩] concatenates_S64x2048_S64x2048_S128x2048_d0) shapeCasts_S128x2048_S1x128x2048 := rfl

def k0code (x : Vec F S1x2048x128 .bf16) : Vec F S1x1x64x2048 .fp8e4m3 :=
  k0_pay103 (k0_pay95 (k0_pay80 x)) (k0_pay96 (k0_pay80 x)) (k0_pay99 (k0_pay96 (k0_pay80 x)) k0_pay97 k0_pay98)

theorem k0code_eq (x : Vec F S1x2048x128 .bf16) : k0code x =
  shapeCast S1x1x64x2048 (truncf .fp8e4m3 (codesT (head0 x)) bitsLt_fp8e4m3_f32) shapeCasts_S64x2048_S1x1x64x2048 := rfl

def k0scale (x : Vec F S1x2048x128 .bf16) : Vec F S1x1x2048 .f32 :=
  k0_pay104 (k0_pay96 (k0_pay80 x)) (k0_pay99 (k0_pay96 (k0_pay80 x)) k0_pay97 k0_pay98)

theorem k0scale_eq (x : Vec F S1x2048x128 .bf16) : k0scale x =
  shapeCast S1x1x2048 (vscale (tok (head0 x))) shapeCasts_S1x2048_S1x1x2048 := rfl

def k0b (x : Vec F S1x2048x128 .bf16) : Vec F S1x2048x128 .f32 :=
  k0_pay106 (k0_pay105 (k0_pay96 (k0_pay80 x)) (k0_pay99 (k0_pay96 (k0_pay80 x)) k0_pay97 k0_pay98))

theorem k0b_eq (x : Vec F S1x2048x128 .bf16) : k0b x =
  shapeCast S1x2048x128 (transpose S2048x128 [1, 0] (broadcastTo S128x2048 (shapeCast S1x2048 (vscale (tok (head0 x))) shapeCasts_S1x2048_S1x2048) broadcasts_S1x2048_S128x2048) transposes_S128x2048_p1_0_S2048x128) shapeCasts_S2048x128_S1x2048x128 := rfl

def v0code (x : Vec F S1x2048x128 .bf16) : Vec F S1x1x64x2048 .fp8e4m3 :=
  k0_pay116 (k0_pay114 (k0_pay107 (k0_pay81 x)) (k0_pay108 (k0_pay81 x)) (k0_pay109 (k0_pay81 x)) (k0_pay110 (k0_pay81 x)) (k0_pay111 (k0_pay81 x))) k0_pay115

theorem v0code_eq (x : Vec F S1x2048x128 .bf16) : v0code x =
  shapeCast S1x1x64x2048 (truncf .fp8e4m3 (codesC (head0 x)) bitsLt_fp8e4m3_f32) shapeCasts_S64x2048_S1x1x64x2048 := rfl

def v0s (x : Vec F S1x2048x128 .bf16) : FVec F S64x1 .f32 :=
  k0_pay113 (k0_pay108 (k0_pay81 x)) (k0_pay109 (k0_pay81 x)) (k0_pay110 (k0_pay81 x)) (k0_pay111 (k0_pay81 x))

theorem v0s_eq (x : Vec F S1x2048x128 .bf16) : v0s x =
  vscale (cha (head0 x)) := rfl

def v0row (x : Vec F S1x2048x128 .bf16) : Vec F S1x1x64 .f32 :=
  k0_pay117 (k0_pay113 (k0_pay108 (k0_pay81 x)) (k0_pay109 (k0_pay81 x)) (k0_pay110 (k0_pay81 x)) (k0_pay111 (k0_pay81 x)))

theorem v0row_eq (x : Vec F S1x2048x128 .bf16) : v0row x =
  shapeCast S1x1x64 (extractStridedSlice S1x64 ![0, 0] (transpose S128x64 [1, 0] (broadcastTo S64x128 (shapeCast S64x1 (vscale (cha (head0 x))) shapeCasts_S64x1_S64x1) broadcasts_S64x1_S64x128) transposes_S64x128_p1_0_S128x64) slices_S128x64_o0_0_S1x64) shapeCasts_S1x64_S1x1x64 := rfl

def q1code (x : Vec F S1x2048x128 .bf16) : Vec F S1x1x64x2048 .fp8e4m3 :=
  k0_pay125 (k0_pay118 (k0_pay79 x)) (k0_pay123 (k0_pay119 (k0_pay79 x)) (k0_pay120 (k0_pay79 x)) (k0_pay121 (k0_pay79 x)) (k0_pay122 (k0_pay79 x)))

theorem q1code_eq (x : Vec F S1x2048x128 .bf16) : q1code x =
  shapeCast S1x1x64x2048 (truncf .fp8e4m3 (codesT (head1 x)) bitsLt_fp8e4m3_f32) shapeCasts_S64x2048_S1x1x64x2048 := rfl

def q1scale (x : Vec F S1x2048x128 .bf16) : Vec F S1x1x2048 .f32 :=
  k0_pay126 (k0_pay123 (k0_pay119 (k0_pay79 x)) (k0_pay120 (k0_pay79 x)) (k0_pay121 (k0_pay79 x)) (k0_pay122 (k0_pay79 x)))

theorem q1scale_eq (x : Vec F S1x2048x128 .bf16) : q1scale x =
  shapeCast S1x1x2048 (vscale (tok (head1 x))) shapeCasts_S1x2048_S1x1x2048 := rfl

def q1z (x : Vec F S1x2048x128 .bf16) : Vec F S1x128x2048 .fp8e4m3 :=
  k0_pay127 (k0_pay118 (k0_pay79 x)) (k0_pay123 (k0_pay119 (k0_pay79 x)) (k0_pay120 (k0_pay79 x)) (k0_pay121 (k0_pay79 x)) (k0_pay122 (k0_pay79 x)))

theorem q1z_eq (x : Vec F S1x2048x128 .bf16) : q1z x =
  shapeCast S1x128x2048 (concatenate S128x2048 0 [⟨S64x2048, broadcast S64x2048 (Scalar.ofBits .fp8e4m3 0x00#8)⟩, ⟨S64x2048, truncf .fp8e4m3 (codesT (head1 x)) bitsLt_fp8e4m3_f32⟩] concatenates_S64x2048_S64x2048_S128x2048_d0) shapeCasts_S128x2048_S1x128x2048 := rfl

def k1code (x : Vec F S1x2048x128 .bf16) : Vec F S1x1x64x2048 .fp8e4m3 :=
  k0_pay138 (k0_pay128 (k0_pay80 x)) (k0_pay129 (k0_pay80 x)) (k0_pay133 (k0_pay129 (k0_pay80 x)) k0_pay130 k0_pay131 k0_pay132) k0_pay134

theorem k1code_eq (x : Vec F S1x2048x128 .bf16) : k1code x =
  shapeCast S1x1x64x2048 (truncf .fp8e4m3 (codesT (head1 x)) bitsLt_fp8e4m3_f32) shapeCasts_S64x2048_S1x1x64x2048 := rfl

def k1scale (x : Vec F S1x2048x128 .bf16) : Vec F S1x1x2048 .f32 :=
  k0_pay139 (k0_pay129 (k0_pay80 x)) (k0_pay133 (k0_pay129 (k0_pay80 x)) k0_pay130 k0_pay131 k0_pay132) k0_pay134

theorem k1scale_eq (x : Vec F S1x2048x128 .bf16) : k1scale x =
  shapeCast S1x1x2048 (vscale (tok (head1 x))) shapeCasts_S1x2048_S1x1x2048 := rfl

def k1b (x : Vec F S1x2048x128 .bf16) : Vec F S1x2048x128 .f32 :=
  k0_pay141 (k0_pay140 (k0_pay129 (k0_pay80 x)) (k0_pay133 (k0_pay129 (k0_pay80 x)) k0_pay130 k0_pay131 k0_pay132) k0_pay134)

theorem k1b_eq (x : Vec F S1x2048x128 .bf16) : k1b x =
  shapeCast S1x2048x128 (transpose S2048x128 [1, 0] (broadcastTo S128x2048 (shapeCast S1x2048 (vscale (tok (head1 x))) shapeCasts_S1x2048_S1x2048) broadcasts_S1x2048_S128x2048) transposes_S128x2048_p1_0_S2048x128) shapeCasts_S2048x128_S1x2048x128 := rfl

def v1code (x : Vec F S1x2048x128 .bf16) : Vec F S1x1x64x2048 .fp8e4m3 :=
  k0_pay148 (k0_pay147 (k0_pay142 (k0_pay81 x)) (k0_pay143 (k0_pay81 x)) (k0_pay144 (k0_pay81 x)))

theorem v1code_eq (x : Vec F S1x2048x128 .bf16) : v1code x =
  shapeCast S1x1x64x2048 (truncf .fp8e4m3 (codesC (head1 x)) bitsLt_fp8e4m3_f32) shapeCasts_S64x2048_S1x1x64x2048 := rfl

def v1s (x : Vec F S1x2048x128 .bf16) : FVec F S64x1 .f32 :=
  k0_pay146 (k0_pay143 (k0_pay81 x)) (k0_pay144 (k0_pay81 x))

theorem v1s_eq (x : Vec F S1x2048x128 .bf16) : v1s x =
  vscale (cha (head1 x)) := rfl

def v1row (x : Vec F S1x2048x128 .bf16) : Vec F S1x1x64 .f32 :=
  k0_pay149 (k0_pay146 (k0_pay143 (k0_pay81 x)) (k0_pay144 (k0_pay81 x)))

theorem v1row_eq (x : Vec F S1x2048x128 .bf16) : v1row x =
  shapeCast S1x1x64 (extractStridedSlice S1x64 ![0, 0] (transpose S128x64 [1, 0] (broadcastTo S64x128 (shapeCast S64x1 (vscale (cha (head1 x))) shapeCasts_S64x1_S64x1) broadcasts_S64x1_S64x128) transposes_S64x128_p1_0_S128x64) slices_S128x64_o0_0_S1x64) shapeCasts_S1x64_S1x1x64 := rfl

def kn (x : Vec F S1x2048x128 .bf16) : Vec F S2048x128 .fp8e4m3 :=
  k0_pay150 (k0_pay102 (k0_pay95 (k0_pay80 x)) (k0_pay96 (k0_pay80 x)) (k0_pay99 (k0_pay96 (k0_pay80 x)) k0_pay97 k0_pay98)) (k0_pay137 (k0_pay128 (k0_pay80 x)) (k0_pay129 (k0_pay80 x)) (k0_pay133 (k0_pay129 (k0_pay80 x)) k0_pay130 k0_pay131 k0_pay132) k0_pay134)

theorem kn_eq (x : Vec F S1x2048x128 .bf16) : kn x =
  shapeCast S2048x128 (truncf .fp8e4m3 (transpose S2048x128 [1, 0] (truncf .bf16 (concatenate S128x2048 0 [⟨S64x2048, codesT (head0 x)⟩, ⟨S64x2048, codesT (head1 x)⟩] concatenates_S64x2048_S64x2048_S128x2048_d0) bitsLt_bf16_f32) transposes_S128x2048_p1_0_S2048x128) bitsLt_fp8e4m3_bf16) shapeCasts_S2048x128_S2048x128 := rfl

end Vec

/-! ## Over the reals -/

/-- Channel `d` of head `h` of the block's two. -/
def ch (h : Fin 2) (d : Fin 64) : Fin 128 := ⟨64 * h + d, by omega⟩

/-- A token's scale, a channel's scale, and the codes at them. -/
def tsc (t : Fin 2048 → Fin 128 → ℝ) (h : Fin 2) (i : Fin 2048) : ℝ := sc (gmax fun d => |t i (ch h d)|)
def csc (t : Fin 2048 → Fin 128 → ℝ) (h : Fin 2) (d : Fin 64) : ℝ := sc (gmax fun i => |t i (ch h d)|)
def tcd (t : Fin 2048 → Fin 128 → ℝ) (h : Fin 2) (d : Fin 64) (i : Fin 2048) : ℝ := code (t i (ch h d)) (tsc t h i)
def ccd (t : Fin 2048 → Fin 128 → ℝ) (h : Fin 2) (d : Fin 64) (i : Fin 2048) : ℝ := code (t i (ch h d)) (csc t h d)

theorem ok_gmax {n : ℕ} [NeZero n] (f : Fin n → ℝ) (h : ∀ i, Ok (f i)) : Ok (gmax f) := by
  obtain ⟨i, e⟩ := gmax_mem f
  rw [e]; exact h i

theorem c448_lit : Ideal.ofBits FTy.f32 0x3B124925#32 = (c448 : EReal) := by
  simp [Ideal.ofBits, Ideal.ieee, c448, -EReal.coe_mul]; norm_num

theorem p448_lit : Ideal.ofBits FTy.f32 0x43E00000#32 = ((448 : ℝ) : EReal) := by
  simp [Ideal.ofBits, Ideal.ieee, -EReal.coe_mul]; norm_num

theorem n448_lit : Ideal.ofBits FTy.f32 0xC3E00000#32 = ((-448 : ℝ) : EReal) := by
  simp [Ideal.ofBits, Ideal.ieee, -EReal.coe_mul]; norm_num

theorem zero8_lit : Ideal.ofBits FTy.fp8e4m3 0x00#8 = ((0 : ℝ) : EReal) := by
  simp [Ideal.ofBits, Ideal.e4m3fn, Ideal.ieee]

theorem absf_coe (a : ℝ) : (FloatOps.absf (F := Ideal) (φ := .f32) (a : EReal) : EReal) = ((|a| : ℝ) : EReal) := abs_coe a

variable (u : FVec Ideal S64x2048 .f32) (g : Fin 64 → Fin 2048 → ℝ)

theorem tok_apply (hu : ∀ d i, u (ix2 d i) = (g d i : EReal)) (i : Fin 2048) :
    tok u (ix2 0 i) = ((gmax (fun d => |g d i|) * c448 : ℝ) : EReal) := by
  pointwise [tok]
  simp only [hu, absf_coe, ninf, fold_max_coe, c448_lit, ← EReal.coe_mul]

theorem cha_apply (hu : ∀ d i, u (ix2 d i) = (g d i : EReal)) (d : Fin 64) :
    cha u (ix2 d 0) = ((gmax (fun i => |g d i|) * c448 : ℝ) : EReal) := by
  pointwise [cha]
  simp only [hu, absf_coe, ninf, fold_max_coe, c448_lit, ← EReal.coe_mul]

theorem tscale_apply (hu : ∀ d i, u (ix2 d i) = (g d i : EReal)) (ok : ∀ d i, Ok |g d i|) (i : Fin 2048) :
    vscale (tok u) (ix2 0 i) = (sc (gmax fun d => |g d i|) : EReal) :=
  vscale_eq _ _ _ (ok_gmax _ fun d => ok d i) (tok_apply u g hu i)

theorem cscale_apply (hu : ∀ d i, u (ix2 d i) = (g d i : EReal)) (ok : ∀ d i, Ok |g d i|) (d : Fin 64) :
    vscale (cha u) (ix2 d 0) = (sc (gmax fun i => |g d i|) : EReal) :=
  vscale_eq _ _ _ (ok_gmax _ fun i => ok d i) (cha_apply u g hu d)

theorem clipped_apply (w : FVec Ideal S64x2048 .f32) (hu : ∀ d i, u (ix2 d i) = (g d i : EReal)) (d : Fin 64) (i : Fin 2048) (s : ℝ)
    (hw : w (ix2 d i) = ((s⁻¹ : ℝ) : EReal)) : clipped u w (ix2 d i) = (code (g d i) s : EReal) := by
  pointwise [clipped]
  rw [hu, hw, p448_lit, n448_lit, ← EReal.coe_mul, coe_max, coe_min]; rfl

theorem codesT_apply (hu : ∀ d i, u (ix2 d i) = (g d i : EReal)) (ok : ∀ d i, Ok |g d i|) (d : Fin 64) (i : Fin 2048) :
    codesT u (ix2 d i) = (code (g d i) (sc (gmax fun d => |g d i|)) : EReal) := by
  refine clipped_apply u g _ hu d i _ ?_
  have e : broadcastTo S64x2048 (vinv (tok u)) broadcasts_S1x2048_S64x2048 (ix2 d i) = vinv (tok u) (ix2 0 i) := by pointwise []
  rw [e]
  exact vinv_eq _ _ _ (ok_gmax _ fun d => ok d i) (tok_apply u g hu i)

theorem codesC_apply (hu : ∀ d i, u (ix2 d i) = (g d i : EReal)) (ok : ∀ d i, Ok |g d i|) (d : Fin 64) (i : Fin 2048) :
    codesC u (ix2 d i) = (code (g d i) (sc (gmax fun i => |g d i|)) : EReal) := by
  refine clipped_apply u g _ hu d i _ ?_
  have e : broadcastTo S64x2048 (vinv (cha u)) broadcasts_S64x1_S64x2048 (ix2 d i) = vinv (cha u) (ix2 d 0) := by pointwise []
  rw [e]
  exact vinv_eq _ _ _ (ok_gmax _ fun i => ok d i) (cha_apply u g hu d)

variable (x : Vec Ideal S1x2048x128 .bf16) (t : Fin 2048 → Fin 128 → ℝ)

theorem head0_apply (hx : ∀ i c, x (ix3 0 i c) = (t i c : EReal)) (d : Fin 64) (i : Fin 2048) : head0 x (ix2 d i) = (t i (ch 0 d) : EReal) := by
  rw [← hx]
  pointwise [head0, k0_pay79]
  first | rfl | (unfold ch; simp)

theorem head1_apply (hx : ∀ i c, x (ix3 0 i c) = (t i c : EReal)) (d : Fin 64) (i : Fin 2048) : head1 x (ix2 d i) = (t i (ch 1 d) : EReal) := by
  rw [← hx]
  pointwise [head1, k0_pay79]
  first | rfl | (unfold ch; simp)

theorem q0code_apply (hx : ∀ i c, x (ix3 0 i c) = (t i c : EReal)) (ok : ∀ i c, Ok |t i c|) (d : Fin 64) (i : Fin 2048) :
    q0code x (ix4 0 0 d i) = (tcd t 0 d i : EReal) := by
  have e : q0code x (ix4 0 0 d i) = codesT (head0 x) (ix2 d i) := by rw [q0code_eq]; pointwise []
  rw [e]
  exact codesT_apply _ (fun d i => t i (ch 0 d)) (head0_apply x t hx) (fun d i => ok i _) d i

theorem q0scale_apply (hx : ∀ i c, x (ix3 0 i c) = (t i c : EReal)) (ok : ∀ i c, Ok |t i c|) (i : Fin 2048) :
    q0scale x (ix3 0 0 i) = (tsc t 0 i : EReal) := by
  have e : q0scale x (ix3 0 0 i) = vscale (tok (head0 x)) (ix2 0 i) := by rw [q0scale_eq]; pointwise []
  rw [e]
  exact tscale_apply _ (fun d i => t i (ch 0 d)) (head0_apply x t hx) (fun d i => ok i _) i

theorem k0code_apply (hx : ∀ i c, x (ix3 0 i c) = (t i c : EReal)) (ok : ∀ i c, Ok |t i c|) (d : Fin 64) (i : Fin 2048) :
    k0code x (ix4 0 0 d i) = (tcd t 0 d i : EReal) := by
  have e : k0code x (ix4 0 0 d i) = codesT (head0 x) (ix2 d i) := by rw [k0code_eq]; pointwise []
  rw [e]
  exact codesT_apply _ (fun d i => t i (ch 0 d)) (head0_apply x t hx) (fun d i => ok i _) d i

theorem k0scale_apply (hx : ∀ i c, x (ix3 0 i c) = (t i c : EReal)) (ok : ∀ i c, Ok |t i c|) (i : Fin 2048) :
    k0scale x (ix3 0 0 i) = (tsc t 0 i : EReal) := by
  have e : k0scale x (ix3 0 0 i) = vscale (tok (head0 x)) (ix2 0 i) := by rw [k0scale_eq]; pointwise []
  rw [e]
  exact tscale_apply _ (fun d i => t i (ch 0 d)) (head0_apply x t hx) (fun d i => ok i _) i

theorem k0b_apply (hx : ∀ i c, x (ix3 0 i c) = (t i c : EReal)) (ok : ∀ i c, Ok |t i c|) (i : Fin 2048) (l : Fin 128) :
    k0b x (ix3 0 i l) = (tsc t 0 i : EReal) := by
  have e : k0b x (ix3 0 i l) = vscale (tok (head0 x)) (ix2 0 i) := by rw [k0b_eq]; pointwise []
  rw [e]
  exact tscale_apply _ (fun d i => t i (ch 0 d)) (head0_apply x t hx) (fun d i => ok i _) i

theorem v0code_apply (hx : ∀ i c, x (ix3 0 i c) = (t i c : EReal)) (ok : ∀ i c, Ok |t i c|) (d : Fin 64) (i : Fin 2048) :
    v0code x (ix4 0 0 d i) = (ccd t 0 d i : EReal) := by
  have e : v0code x (ix4 0 0 d i) = codesC (head0 x) (ix2 d i) := by rw [v0code_eq]; pointwise []
  rw [e]
  exact codesC_apply _ (fun d i => t i (ch 0 d)) (head0_apply x t hx) (fun d i => ok i _) d i

theorem v0s_apply (hx : ∀ i c, x (ix3 0 i c) = (t i c : EReal)) (ok : ∀ i c, Ok |t i c|) (d : Fin 64) :
    v0s x (ix2 d 0) = (csc t 0 d : EReal) := by
  have e : v0s x (ix2 d 0) = vscale (cha (head0 x)) (ix2 d 0) := by rw [v0s_eq];
  rw [e]
  exact cscale_apply _ (fun d i => t i (ch 0 d)) (head0_apply x t hx) (fun d i => ok i _) d

theorem v0row_apply (hx : ∀ i c, x (ix3 0 i c) = (t i c : EReal)) (ok : ∀ i c, Ok |t i c|) (d : Fin 64) :
    v0row x (ix3 0 0 d) = (csc t 0 d : EReal) := by
  have e : v0row x (ix3 0 0 d) = vscale (cha (head0 x)) (ix2 d 0) := by rw [v0row_eq]; pointwise []
  rw [e]
  exact cscale_apply _ (fun d i => t i (ch 0 d)) (head0_apply x t hx) (fun d i => ok i _) d

theorem q1code_apply (hx : ∀ i c, x (ix3 0 i c) = (t i c : EReal)) (ok : ∀ i c, Ok |t i c|) (d : Fin 64) (i : Fin 2048) :
    q1code x (ix4 0 0 d i) = (tcd t 1 d i : EReal) := by
  have e : q1code x (ix4 0 0 d i) = codesT (head1 x) (ix2 d i) := by rw [q1code_eq]; pointwise []
  rw [e]
  exact codesT_apply _ (fun d i => t i (ch 1 d)) (head1_apply x t hx) (fun d i => ok i _) d i

theorem q1scale_apply (hx : ∀ i c, x (ix3 0 i c) = (t i c : EReal)) (ok : ∀ i c, Ok |t i c|) (i : Fin 2048) :
    q1scale x (ix3 0 0 i) = (tsc t 1 i : EReal) := by
  have e : q1scale x (ix3 0 0 i) = vscale (tok (head1 x)) (ix2 0 i) := by rw [q1scale_eq]; pointwise []
  rw [e]
  exact tscale_apply _ (fun d i => t i (ch 1 d)) (head1_apply x t hx) (fun d i => ok i _) i

theorem k1code_apply (hx : ∀ i c, x (ix3 0 i c) = (t i c : EReal)) (ok : ∀ i c, Ok |t i c|) (d : Fin 64) (i : Fin 2048) :
    k1code x (ix4 0 0 d i) = (tcd t 1 d i : EReal) := by
  have e : k1code x (ix4 0 0 d i) = codesT (head1 x) (ix2 d i) := by rw [k1code_eq]; pointwise []
  rw [e]
  exact codesT_apply _ (fun d i => t i (ch 1 d)) (head1_apply x t hx) (fun d i => ok i _) d i

theorem k1scale_apply (hx : ∀ i c, x (ix3 0 i c) = (t i c : EReal)) (ok : ∀ i c, Ok |t i c|) (i : Fin 2048) :
    k1scale x (ix3 0 0 i) = (tsc t 1 i : EReal) := by
  have e : k1scale x (ix3 0 0 i) = vscale (tok (head1 x)) (ix2 0 i) := by rw [k1scale_eq]; pointwise []
  rw [e]
  exact tscale_apply _ (fun d i => t i (ch 1 d)) (head1_apply x t hx) (fun d i => ok i _) i

theorem k1b_apply (hx : ∀ i c, x (ix3 0 i c) = (t i c : EReal)) (ok : ∀ i c, Ok |t i c|) (i : Fin 2048) (l : Fin 128) :
    k1b x (ix3 0 i l) = (tsc t 1 i : EReal) := by
  have e : k1b x (ix3 0 i l) = vscale (tok (head1 x)) (ix2 0 i) := by rw [k1b_eq]; pointwise []
  rw [e]
  exact tscale_apply _ (fun d i => t i (ch 1 d)) (head1_apply x t hx) (fun d i => ok i _) i

theorem v1code_apply (hx : ∀ i c, x (ix3 0 i c) = (t i c : EReal)) (ok : ∀ i c, Ok |t i c|) (d : Fin 64) (i : Fin 2048) :
    v1code x (ix4 0 0 d i) = (ccd t 1 d i : EReal) := by
  have e : v1code x (ix4 0 0 d i) = codesC (head1 x) (ix2 d i) := by rw [v1code_eq]; pointwise []
  rw [e]
  exact codesC_apply _ (fun d i => t i (ch 1 d)) (head1_apply x t hx) (fun d i => ok i _) d i

theorem v1s_apply (hx : ∀ i c, x (ix3 0 i c) = (t i c : EReal)) (ok : ∀ i c, Ok |t i c|) (d : Fin 64) :
    v1s x (ix2 d 0) = (csc t 1 d : EReal) := by
  have e : v1s x (ix2 d 0) = vscale (cha (head1 x)) (ix2 d 0) := by rw [v1s_eq];
  rw [e]
  exact cscale_apply _ (fun d i => t i (ch 1 d)) (head1_apply x t hx) (fun d i => ok i _) d

theorem v1row_apply (hx : ∀ i c, x (ix3 0 i c) = (t i c : EReal)) (ok : ∀ i c, Ok |t i c|) (d : Fin 64) :
    v1row x (ix3 0 0 d) = (csc t 1 d : EReal) := by
  have e : v1row x (ix3 0 0 d) = vscale (cha (head1 x)) (ix2 d 0) := by rw [v1row_eq]; pointwise []
  rw [e]
  exact cscale_apply _ (fun d i => t i (ch 1 d)) (head1_apply x t hx) (fun d i => ok i _) d

/-- The query codes beside zeros: head 0's half of the 128 channels carries them. -/
theorem q0z_in (hx : ∀ i c, x (ix3 0 i c) = (t i c : EReal)) (ok : ∀ i c, Ok |t i c|) (d : Fin 64) (i : Fin 2048) :
    q0z x (ix3 0 (ch 0 d) i) = (tcd t 0 d i : EReal) := by
  have e : q0z x (ix3 0 (ch 0 d) i) = codesT (head0 x) (ix2 d i) := by
    rw [q0z_eq]; unfold ch; pointwise []
  rw [e]
  exact codesT_apply _ (fun d i => t i (ch 0 d)) (head0_apply x t hx) (fun d i => ok i _) d i

theorem q0z_out (d : Fin 64) (i : Fin 2048) : q0z x (ix3 0 (ch 1 d) i) = ((0 : ℝ) : EReal) := by
  rw [q0z_eq]; unfold ch; pointwise []
  exact zero8_lit

theorem kn_0 (hx : ∀ i c, x (ix3 0 i c) = (t i c : EReal)) (ok : ∀ i c, Ok |t i c|) (i : Fin 2048) (d : Fin 64) :
    kn x (ix2 i (ch 0 d)) = (tcd t 0 d i : EReal) := by
  have e : kn x (ix2 i (ch 0 d)) = codesT (head0 x) (ix2 d i) := by
    rw [kn_eq]; unfold ch; pointwise []
  rw [e]
  exact codesT_apply _ (fun d i => t i (ch 0 d)) (head0_apply x t hx) (fun d i => ok i _) d i

/-- The query codes beside zeros: head 1's half of the 128 channels carries them. -/
theorem q1z_in (hx : ∀ i c, x (ix3 0 i c) = (t i c : EReal)) (ok : ∀ i c, Ok |t i c|) (d : Fin 64) (i : Fin 2048) :
    q1z x (ix3 0 (ch 1 d) i) = (tcd t 1 d i : EReal) := by
  have e : q1z x (ix3 0 (ch 1 d) i) = codesT (head1 x) (ix2 d i) := by
    rw [q1z_eq]; unfold ch; pointwise []
  rw [e]
  exact codesT_apply _ (fun d i => t i (ch 1 d)) (head1_apply x t hx) (fun d i => ok i _) d i

theorem q1z_out (d : Fin 64) (i : Fin 2048) : q1z x (ix3 0 (ch 0 d) i) = ((0 : ℝ) : EReal) := by
  rw [q1z_eq]; unfold ch; pointwise []
  exact zero8_lit

theorem kn_1 (hx : ∀ i c, x (ix3 0 i c) = (t i c : EReal)) (ok : ∀ i c, Ok |t i c|) (i : Fin 2048) (d : Fin 64) :
    kn x (ix2 i (ch 1 d)) = (tcd t 1 d i : EReal) := by
  have e : kn x (ix2 i (ch 1 d)) = codesT (head1 x) (ix2 d i) := by
    rw [kn_eq]; unfold ch; pointwise []
  rw [e]
  exact codesT_apply _ (fun d i => t i (ch 1 d)) (head1_apply x t hx) (fun d i => ok i _) d i

end Cert.KernelIdeal.Quant

end
-- ==== Proof.Tile.lean ====
module

public import proofs.«01_k».proof.Proof.Gen.KernelIdeal.Skeleton
public import proofs.«01_k».proof.Proof.Spec

@[expose] public section

set_option maxRecDepth 16384

noncomputable section

namespace Cert.KernelIdeal.Tile

open Idealize.ShloMosaic Cert.KernelIdeal Cert.KernelIdeal.Gen Cert.Spec

section Ops
variable {F : FTy → Type} [FloatOps F] [Named F]

/-- The greatest entry of each sublane class of a chunk of 256 keys. -/
def cm (T : FVec F S256x256 .f32) : FVec F S8x256 .f32 :=
  multiReduction .maximumf [0] S8x256 (shapeCast S32x8x256 T shapeCasts_S256x256_S32x8x256) 0xFF800000#32 reduces_S32x8x256_S8x256 (.inl rfl) rfl

/-- The greatest over all eight chunks and all sublane classes. -/
def mx (T : Fin 8 → FVec F S256x256 .f32) : FVec F S1x256 .f32 :=
  shapeCast S1x256 (multiReduction .maximumf [0] S256
    (maximumf (maximumf (maximumf (maximumf (maximumf (maximumf (maximumf (cm (T 0)) (cm (T 1))) (cm (T 2))) (cm (T 3))) (cm (T 4))) (cm (T 5))) (cm (T 6))) (cm (T 7)))
    0xFF800000#32 reduces_S8x256_S256 (.inl rfl) rfl) shapeCasts_S256_S1x256

/-- The subtracted exponent, from the greatest entry `m` and the query's factor `q`. -/
def shift (m q : FVec F S1x256 .f32) : FVec F S1x256 .f32 :=
  maximumf (subf (mulf m q) (broadcast S1x256 (Scalar.ofBits .f32 0x41000000#32)))
    (subf (mulf m q) (broadcast S1x256 (Scalar.ofBits .f32 0x410CEAED#32)))

/-- The scaled probabilities of a chunk. -/
def pr (T : FVec F S256x256 .f32) (q sh : FVec F S1x256 .f32) : FVec F S256x256 .f32 :=
  exp2 (subf (mulf T (broadcastTo S256x256 q broadcasts_S1x256_S256x256)) (broadcastTo S256x256 sh broadcasts_S1x256_S256x256))

/-- Their sum over each sublane class. -/
def ls (P : FVec F S256x256 .f32) : FVec F S8x256 .f32 :=
  multiReduction .add [0] S8x256 (shapeCast S32x8x256 P shapeCasts_S256x256_S32x8x256) 0x00000000#32 reduces_S32x8x256_S8x256 (.inl rfl) rfl

/-- The product of a chunk's value codes with its probabilities. -/
def av (V : Vec F S1x1x64x256 .fp8e4m3) (P : FVec F S256x256 .f32) : FVec F S64x256 .f32 :=
  matmul dot_S64x256_S256x256_S64x256_1_0_0_1_n_n none (shapeCast S64x256 V shapeCasts_S1x1x64x256_S64x256)
    (truncf .fp8e4m3 P bitsLt_fp8e4m3_f32) (constant S64x256 .f32 0x00000000#32)

/-- The sum of the probabilities over all keys. -/
def den (P : Fin 8 → FVec F S256x256 .f32) : FVec F S1x256 .f32 :=
  shapeCast S1x256 (multiReduction .add [0] S256
    (addf (addf (addf (addf (addf (addf (addf (addf (broadcast S8x256 (Scalar.ofBits .f32 0x00000000#32)) (ls (P 0))) (ls (P 1))) (ls (P 2)))
      (ls (P 3))) (ls (P 4))) (ls (P 5))) (ls (P 6))) (ls (P 7))) 0x00000000#32 reduces_S8x256_S256 (.inl rfl) rfl) shapeCasts_S256_S1x256

/-- The product of the value codes with the probabilities over all keys. -/
def num (V : Fin 8 → Vec F S1x1x64x256 .fp8e4m3) (P : Fin 8 → FVec F S256x256 .f32) : FVec F S64x256 .f32 :=
  addf (addf (addf (addf (addf (addf (addf (addf (broadcast S64x256 (Scalar.ofBits .f32 0x00000000#32)) (av (V 0) (P 0))) (av (V 1) (P 1))) (av (V 2) (P 2)))
    (av (V 3) (P 3))) (av (V 4) (P 4))) (av (V 5) (P 5))) (av (V 6) (P 6))) (av (V 7) (P 7))

/-- The attention output of a tile, before it is stored, from the scaled products of all eight chunks: `T` as they are
    reduced to their maximum, `U` as they are read back for the exponentials. -/
def tile (T U : Fin 8 → FVec F S256x256 .f32) (V : Fin 8 → Vec F S1x1x64x256 .fp8e4m3)
    (q : FVec F S1x256 .f32) (vs : FVec F S64x1 .f32) : FVec F S64x256 .f32 :=
  shapeCast S64x256 (divf (mulf (num V fun c => pr (U c) q (shift (mx T) q)) (broadcastTo S64x256 vs broadcasts_S64x1_S64x256))
    (broadcastTo S64x256 (den fun c => pr (U c) q (shift (mx T) q)) broadcasts_S1x256_S64x256)) shapeCasts_S64x256_S64x256

end Ops

/-- A sum over all keys, by chunk. -/
theorem sum_chunks (f : Fin 2048 → ℝ) : ∑ j, f j = ∑ c : Fin 8, ∑ a : Fin 256, f ⟨256 * c + a, by omega⟩ := by
  rw [← Equiv.sum_comp (finProdFinEquiv (m := 8) (n := 256)) f, Fintype.sum_prod_type]
  refine Finset.sum_congr rfl fun c _ => Finset.sum_congr rfl fun a _ => congrArg f (Fin.ext ?_)
  simp [finProdFinEquiv]; omega

/-- A sum over a chunk, by sublane class. -/
theorem sum_lanes (f : Fin 256 → ℝ) : ∑ a, f a = ∑ s : Fin 8, ∑ r : Fin 32, f ⟨8 * r + s, by omega⟩ := by
  rw [Finset.sum_comm, ← Equiv.sum_comp (finProdFinEquiv (m := 32) (n := 8)) f, Fintype.sum_prod_type]
  refine Finset.sum_congr rfl fun c _ => Finset.sum_congr rfl fun a _ => congrArg f (Fin.ext ?_)
  simp [finProdFinEquiv]; omega

theorem cm_apply (T : FVec Ideal S256x256 .f32) (t : Fin 256 → Fin 256 → ℝ) (h : ∀ a b, T (ix2 a b) = (t a b : EReal)) (s : Fin 8) (b : Fin 256) :
    cm T (ix2 s b) = ((gmax fun r : Fin 32 => t ⟨8 * r + s, by omega⟩ b : ℝ) : EReal) := by
  pointwise [cm]
  rw [← fold_max_coe, ninf]
  exact congrArg (fun f => Finset.fold max ⊥ f Finset.univ) (funext fun r => by rw [h]; simp only [mul_comm])

theorem ls_apply (T : FVec Ideal S256x256 .f32) (t : Fin 256 → Fin 256 → ℝ) (h : ∀ a b, T (ix2 a b) = (t a b : EReal)) (s : Fin 8) (b : Fin 256) :
    ls T (ix2 s b) = ((∑ r : Fin 32, t ⟨8 * r + s, by omega⟩ b : ℝ) : EReal) := by
  pointwise [ls]
  rw [← coe_sum]
  exact Finset.sum_congr rfl fun r _ => by rw [h]; simp only [mul_comm]

theorem av_apply (V : Vec Ideal S1x1x64x256 .fp8e4m3) (P : FVec Ideal S256x256 .f32) (v : Fin 64 → Fin 256 → ℝ) (p : Fin 256 → Fin 256 → ℝ)
    (hV : ∀ d a, V (ix4 0 0 d a) = (v d a : EReal)) (h : ∀ a b, P (ix2 a b) = (p a b : EReal)) (d : Fin 64) (b : Fin 256) :
    av V P (ix2 d b) = ((∑ a : Fin 256, v d a * p a b : ℝ) : EReal) := by
  pointwise [av]
  rw [← coe_sum]
  exact Finset.sum_congr rfl fun a _ => by rw [hV, h, EReal.coe_mul]

theorem pr_apply (T : FVec Ideal S256x256 .f32) (q sh : FVec Ideal S1x256 .f32) (t : Fin 256 → Fin 256 → ℝ) (q' sh' : Fin 256 → ℝ)
    (h : ∀ a b, T (ix2 a b) = (t a b : EReal)) (hq : ∀ b, q (ix2 0 b) = (q' b : EReal)) (hs : ∀ b, sh (ix2 0 b) = (sh' b : EReal)) (a b : Fin 256) :
    pr T q sh (ix2 a b) = (((2 : ℝ) ^ (t a b * q' b - sh' b) : ℝ) : EReal) := by
  pointwise [pr]
  rw [h, hq, hs, ← EReal.coe_mul, ← EReal.coe_sub]
  rfl

theorem shift_apply (m q : FVec Ideal S1x256 .f32) (m' q' : Fin 256 → ℝ)
    (hm : ∀ b, m (ix2 0 b) = (m' b : EReal)) (hq : ∀ b, q (ix2 0 b) = (q' b : EReal)) (b : Fin 256) :
    shift m q (ix2 0 b) = ((m' b * q' b - 8 : ℝ) : EReal) := by
  pointwise [shift]
  have e1 : Ideal.ofBits FTy.f32 1090519040#32 = ((8 : ℝ) : EReal) := by
    simp [Ideal.ofBits, Ideal.ieee, -EReal.coe_mul]; norm_num
  have e2 : ∃ r : ℝ, 8 ≤ r ∧ Ideal.ofBits FTy.f32 1091365613#32 = (r : EReal) := by
    refine ⟨9235181 / 2 ^ 20, by norm_num, ?_⟩
    simp [Ideal.ofBits, Ideal.ieee, -EReal.coe_mul]; norm_num
  obtain ⟨r, hr, e2⟩ := e2
  rw [hm, hq, e1, e2, ← EReal.coe_mul, ← EReal.coe_sub, ← EReal.coe_sub, coe_max, max_eq_left (by linarith)]

theorem mx_apply (T : Fin 8 → FVec Ideal S256x256 .f32) (t : Fin 2048 → Fin 256 → ℝ)
    (h : ∀ (c : Fin 8) a b, T c (ix2 a b) = (t ⟨256 * c + a, by omega⟩ b : EReal)) (b : Fin 256) :
    mx T (ix2 0 b) = ((gmax fun j => t j b : ℝ) : EReal) := by
  pointwise [mx]
  have H := fun c s => cm_apply (T c) (fun a b => t ⟨256 * c + a, by omega⟩ b) (h c) s b
  simp only [H, coe_max, ninf]
  rw [fold_max_coe]
  congr 1
  symm
  apply gmax_eq
  · intro j
    have hj := j.2
    refine le_trans ?_ (le_gmax _ (⟨j % 8, by omega⟩ : Fin 8))
    have key : ∀ c : Fin 8, (c : ℕ) = j / 256 → t j b ≤ gmax fun r : Fin 32 => t ⟨256 * c + (8 * r + (j % 8 : ℕ)), by omega⟩ b := by
      intro c hc
      refine le_trans (le_of_eq ?_) (le_gmax _ (⟨j % 256 / 8, by omega⟩ : Fin 32))
      congr 1
      apply Fin.ext
      simp only
      omega
    have hc : (⟨j / 256, by omega⟩ : Fin 8) = 0 ∨ (⟨j / 256, by omega⟩ : Fin 8) = 1 ∨ (⟨j / 256, by omega⟩ : Fin 8) = 2 ∨ (⟨j / 256, by omega⟩ : Fin 8) = 3
      ∨ (⟨j / 256, by omega⟩ : Fin 8) = 4 ∨ (⟨j / 256, by omega⟩ : Fin 8) = 5 ∨ (⟨j / 256, by omega⟩ : Fin 8) = 6 ∨ (⟨j / 256, by omega⟩ : Fin 8) = 7 := by
      simp only [Fin.ext_iff]; simp; omega
    simp only [le_max_iff]
    rcases hc with hc | hc | hc | hc | hc | hc | hc | hc <;> have k := key _ (congrArg Fin.val hc).symm <;> simp only [k, true_or, or_true]
  · obtain ⟨s, hs⟩ := gmax_mem fun s : Fin 8 => max (max (max (max (max (max (max
      (gmax fun r : Fin 32 => t ⟨256 * (0 : Fin 8) + (8 * r + s), by omega⟩ b) (gmax fun r : Fin 32 => t ⟨256 * (1 : Fin 8) + (8 * r + s), by omega⟩ b))
      (gmax fun r : Fin 32 => t ⟨256 * (2 : Fin 8) + (8 * r + s), by omega⟩ b)) (gmax fun r : Fin 32 => t ⟨256 * (3 : Fin 8) + (8 * r + s), by omega⟩ b))
      (gmax fun r : Fin 32 => t ⟨256 * (4 : Fin 8) + (8 * r + s), by omega⟩ b)) (gmax fun r : Fin 32 => t ⟨256 * (5 : Fin 8) + (8 * r + s), by omega⟩ b))
      (gmax fun r : Fin 32 => t ⟨256 * (6 : Fin 8) + (8 * r + s), by omega⟩ b)) (gmax fun r : Fin 32 => t ⟨256 * (7 : Fin 8) + (8 * r + s), by omega⟩ b)
    have key : ∀ c : Fin 8, ∃ j, (gmax fun r : Fin 32 => t ⟨256 * c + (8 * r + (s : ℕ)), by omega⟩ b) = t j b := fun c => by
      obtain ⟨r, hr⟩ := gmax_mem fun r : Fin 32 => t ⟨256 * c + (8 * r + (s : ℕ)), by omega⟩ b
      exact ⟨_, hr⟩
    rw [hs]
    have two : ∀ x y : ℝ, (∃ j, x = t j b) → (∃ j, y = t j b) → ∃ j, max x y = t j b := fun x y hx hy => by
      rcases max_choice x y with h | h <;> rw [h] <;> assumption
    exact two _ _ (two _ _ (two _ _ (two _ _ (two _ _ (two _ _ (two _ _ (key 0) (key 1)) (key 2)) (key 3)) (key 4)) (key 5)) (key 6)) (key 7)

theorem den_apply (P : Fin 8 → FVec Ideal S256x256 .f32) (p : Fin 2048 → Fin 256 → ℝ)
    (h : ∀ (c : Fin 8) a b, P c (ix2 a b) = (p ⟨256 * c + a, by omega⟩ b : EReal)) (b : Fin 256) :
    den P (ix2 0 b) = ((∑ j, p j b : ℝ) : EReal) := by
  pointwise [den]
  have H := fun c s => ls_apply (P c) (fun a b => p ⟨256 * c + a, by omega⟩ b) (h c) s b
  simp only [H, ← EReal.coe_add]
  rw [coe_sum, sum_chunks]
  congr 1
  simp only [sum_lanes (fun a : Fin 256 => p ⟨256 * _ + (a : ℕ), _⟩ b)]
  rw [Finset.sum_comm]
  simp only [Fin.sum_univ_eight (M := ℝ), zero_add]

theorem num_apply (V : Fin 8 → Vec Ideal S1x1x64x256 .fp8e4m3) (P : Fin 8 → FVec Ideal S256x256 .f32) (v : Fin 64 → Fin 2048 → ℝ) (p : Fin 2048 → Fin 256 → ℝ)
    (hV : ∀ (c : Fin 8) d a, V c (ix4 0 0 d a) = (v d ⟨256 * c + a, by omega⟩ : EReal))
    (h : ∀ (c : Fin 8) a b, P c (ix2 a b) = (p ⟨256 * c + a, by omega⟩ b : EReal)) (d : Fin 64) (b : Fin 256) :
    num V P (ix2 d b) = ((∑ j, v d j * p j b : ℝ) : EReal) := by
  pointwise [num]
  have H := fun c => av_apply (V c) (P c) (fun d a => v d ⟨256 * c + a, by omega⟩) (fun a b => p ⟨256 * c + a, by omega⟩ b) (hV c) (h c) d b
  simp only [H, ← EReal.coe_add]
  rw [sum_chunks, Fin.sum_univ_eight]

/-- The tile's value: the normalised weighted sum of the value codes, scaled by the value scale. -/
theorem tile_apply (T U : Fin 8 → FVec Ideal S256x256 .f32) (V : Fin 8 → Vec Ideal S1x1x64x256 .fp8e4m3)
    (q : FVec Ideal S1x256 .f32) (vs : FVec Ideal S64x1 .f32) (t : Fin 2048 → Fin 256 → ℝ) (v : Fin 64 → Fin 2048 → ℝ) (s : Fin 256 → ℝ) (w : Fin 64 → ℝ)
    (hT : ∀ (c : Fin 8) a b, T c (ix2 a b) = (t ⟨256 * c + a, by omega⟩ b : EReal))
    (hU : ∀ (c : Fin 8) a b, U c (ix2 a b) = (t ⟨256 * c + a, by omega⟩ b : EReal))
    (hV : ∀ (c : Fin 8) d a, V c (ix4 0 0 d a) = (v d ⟨256 * c + a, by omega⟩ : EReal))
    (hq : ∀ b, q (ix2 0 b) = ((s b * ((1 / 8) * (Real.log 2)⁻¹) : ℝ) : EReal)) (hs : ∀ b, 0 ≤ s b) (hw : ∀ d, vs (ix2 d 0) = (w d : EReal))
    (d : Fin 64) (b : Fin 256) :
    tile T U V q vs (ix2 d b) = ((attn (fun j => t j b * (s b / 8)) (v d) (w d) : ℝ) : EReal) := by
  pointwise [tile]
  have hP := fun c a b => pr_apply (U c) q (shift (mx T) q) (fun a b => t ⟨256 * c + a, by omega⟩ b) _ _ (hU c) hq (shift_apply _ _ _ _ (mx_apply T t hT) hq) a b
  rw [num_apply V _ v (fun j b => (2 : ℝ) ^ (t j b * (s b * (1 / 8 * (Real.log 2)⁻¹)) - ((gmax fun j => t j b) * (s b * (1 / 8 * (Real.log 2)⁻¹)) - 8))) hV hP,
    den_apply _ (fun j b => (2 : ℝ) ^ (t j b * (s b * (1 / 8 * (Real.log 2)⁻¹)) - ((gmax fun j => t j b) * (s b * (1 / 8 * (Real.log 2)⁻¹)) - 8))) hP, hw, ← EReal.coe_mul]
  have e := attn_exp2 (fun j => t j b) (v d) (s b) (w d) (hs b)
  rw [← e]
  exact div_pos_coe _ _ (Finset.sum_pos (fun j _ => Real.rpow_pos_of_pos (by norm_num) _) Finset.univ_nonempty)

end Cert.KernelIdeal.Tile

end
-- ==== Proof.Loop.lean ====
/- What the two loops of the idealized kernel's body store: for each head of the pair, trip by trip, the attention output of
   256 queries, as a tile of the operands read from the scratch and the output blocks. -/
module

public import proofs.«01_k».proof.Proof.Tile
public import proofs.«01_k».proof.Proof.Gen.KernelIdeal.Loops
public import Idealize.ShloMosaic.Lib.VecWindow
public import Idealize.ShloMosaic.Lib.WritesUnit

@[expose] public section

set_option maxRecDepth 16384

noncomputable section

namespace Cert.KernelIdeal.Loop

open Idealize.ShloMosaic Idealize.ShloMosaic.TcCoe Cert.KernelIdeal Cert.KernelIdeal.Gen Cert.KernelIdeal.Tile Cert.Spec

variable {F : FTy → Type} [FloatOps F] [Named F]

/-- The scaled product of 256 keys with 256 queries. -/
def chunk (kn : Vec F S256x128 .fp8e4m3) (kb : Vec F S1x256x128 .f32) (qz : Vec F S1x128x256 .fp8e4m3) : FVec F S256x256 .f32 :=
  mulf (matmul dot_S256x128_S128x256_S256x256_1_0_0_1_n_n none kn (shapeCast S128x256 qz shapeCasts_S1x128x256_S128x256) (constant S256x256 .f32 0x00000000#32))
    (concatenate S256x256 1 [⟨S256x128, shapeCast S256x128 kb shapeCasts_S1x256x128_S256x128⟩, ⟨S256x128, shapeCast S256x128 kb shapeCasts_S1x256x128_S256x128⟩]
      concatenates_S256x128_S256x128_S256x256_d1)

theorem inb13 (c : Fin 8) : ∀ a, (![256 * c.val, 0] : Fin 2 → ℕ) a + S256x128.size a ≤ S2048x128.size a :=
  Fin.forall_fin_two.2 ⟨by show 256 * c.val + 256 ≤ 2048; omega, by show 0 + 128 ≤ 128; omega⟩
theorem inb15 (c : Fin 8) : ∀ a, (![256 * c.val, 0] : Fin 2 → ℕ) a + S256x256.size a ≤ S2048x256.size a :=
  Fin.forall_fin_two.2 ⟨by show 256 * c.val + 256 ≤ 2048; omega, by show 0 + 256 ≤ 256; omega⟩
theorem inb14_0 : ∀ c : Fin 8, ∀ a, (![0, 256 * c.val, 0] : Fin 3 → ℕ) a + S1x256x128.size a ≤ S2x2048x128.size a := by decide
theorem inb14_1 : ∀ c : Fin 8, ∀ a, (![1, 256 * c.val, 0] : Fin 3 → ℕ) a + S1x256x128.size a ≤ S2x2048x128.size a := by decide
theorem inb10_0 : ∀ c : Fin 8, ∀ a, (![0, 0, 0, 256 * c.val] : Fin 4 → ℕ) a + S1x1x64x256.size a ≤ S1x2x64x2048.size a := by decide
theorem inb10_1 : ∀ c : Fin 8, ∀ a, (![0, 1, 0, 256 * c.val] : Fin 4 → ℕ) a + S1x1x64x256.size a ≤ S1x2x64x2048.size a := by decide

/-- The scaled products of a trip as they are stored, the last chunk first. -/
def pieces (T : Fin 8 → FVec F S256x256 .f32) : List (View.Piece (Elt F) S2048x256 .f32) :=
  let p := fun c : Fin 8 => (⟨Rect.unit (s := S2048x256) ![256 * c.val, 0] S256x256.size (inb15 c), shapeCast S256x256 (T c) shapeCasts_S256x256_S256x256⟩ : View.Piece (Elt F) S2048x256 .f32)
  [p 7, p 6, p 5, p 4, p 3, p 2, p 1, p 0]

/-- A chunk read back is the chunk stored. -/
theorem pieces_read {v : View sig .tc .vmem S2048x256 .f32} (T : Fin 8 → FVec F S256x256 .f32) (c : Fin 8) :
    v.readCov (pieces T) (Rect.unit (s := S2048x256) ![256 * c.val, 0] S256x256.size (inb15 c)).toLoadRect = T c := by
  have skip : ∀ (a : Fin 8) (w) (L : List (View.Piece (Elt F) S2048x256 .f32)), a ≠ c →
      v.readCov (⟨Rect.unit (s := S2048x256) ![256 * a.val, 0] S256x256.size (inb15 a), w⟩ :: L) (Rect.unit (s := S2048x256) ![256 * c.val, 0] S256x256.size (inb15 c)).toLoadRect
        = v.readCov L (Rect.unit (s := S2048x256) ![256 * c.val, 0] S256x256.size (inb15 c)).toLoadRect := fun a w L h =>
    View.readCov_cons_of_disjoint v _ L _ (Rect.unit_disjoint (inb := inb15 a) (inb' := inb15 c) 0 (by
      show 256 * a.val + 256 ≤ 256 * c.val ∨ 256 * c.val + 256 ≤ 256 * a.val
      have := Fin.val_ne_of_ne h; omega))
  have hit : ∀ (w) (L : List (View.Piece (Elt F) S2048x256 .f32)),
      v.readCov (⟨Rect.unit (s := S2048x256) ![256 * c.val, 0] S256x256.size (inb15 c), w⟩ :: L) (Rect.unit (s := S2048x256) ![256 * c.val, 0] S256x256.size (inb15 c)).toLoadRect = w :=
    fun w L => View.readCov_cons_toLoadRect v _ w L
  have id : shapeCast S256x256 (T c) shapeCasts_S256x256_S256x256 = T c := shapeCast_self _ _
  unfold pieces
  fin_cases c
  · exact (skip 7 _ _ (by decide)).trans ((skip 6 _ _ (by decide)).trans ((skip 5 _ _ (by decide)).trans ((skip 4 _ _ (by decide)).trans
      ((skip 3 _ _ (by decide)).trans ((skip 2 _ _ (by decide)).trans ((skip 1 _ _ (by decide)).trans ((hit _ _).trans id)))))))
  · exact (skip 7 _ _ (by decide)).trans ((skip 6 _ _ (by decide)).trans ((skip 5 _ _ (by decide)).trans ((skip 4 _ _ (by decide)).trans
      ((skip 3 _ _ (by decide)).trans ((skip 2 _ _ (by decide)).trans ((hit _ _).trans id))))))
  · exact (skip 7 _ _ (by decide)).trans ((skip 6 _ _ (by decide)).trans ((skip 5 _ _ (by decide)).trans ((skip 4 _ _ (by decide)).trans
      ((skip 3 _ _ (by decide)).trans ((hit _ _).trans id)))))
  · exact (skip 7 _ _ (by decide)).trans ((skip 6 _ _ (by decide)).trans ((skip 5 _ _ (by decide)).trans ((skip 4 _ _ (by decide)).trans ((hit _ _).trans id))))
  · exact (skip 7 _ _ (by decide)).trans ((skip 6 _ _ (by decide)).trans ((skip 5 _ _ (by decide)).trans ((hit _ _).trans id)))
  · exact (skip 7 _ _ (by decide)).trans ((skip 6 _ _ (by decide)).trans ((hit _ _).trans id))
  · exact (skip 7 _ _ (by decide)).trans ((hit _ _).trans id)
  · exact (hit _ _).trans id

/-! ## Head 0 of the pair -/

/-- The scaled product of chunk `c` of the keys with the queries of trip `k`. -/
def T1 (arg12 : Memref sig .tc .vmem S2x128x2048 .fp8e4m3) (arg13 : Memref sig .tc .vmem S2048x128 .fp8e4m3) (arg14 : Memref sig .tc .vmem S2x2048x128 .f32)
    (X_arg12 : BufTy.Contents (Elt F) arg12.view.ty) (X_arg13 : BufTy.Contents (Elt F) arg13.view.ty) (X_arg14 : BufTy.Contents (Elt F) arg14.view.ty) (k : Fin k0_t1_loop.trips) (c : Fin 8) : FVec F S256x256 .f32 :=
  chunk (arg13.view.readAt (Elt F) (Rect.unit (s := S2048x128) ![256 * c.val, 0] S256x128.size (inb13 c)).toLoadRect X_arg13)
    (arg14.view.readAt (Elt F) (Rect.unit (s := S2x2048x128) ![0, 256 * c.val, 0] S1x256x128.size (inb14_0 c)).toLoadRect X_arg14)
    (arg12.view.readAt (Elt F) (Rect.unit (s := S2x128x2048) (k0_off3 k) S1x128x256.size (k0_off3_inb k)).toLoadRect X_arg12)

/-- What trip `k` stores: the attention output of its 256 queries. -/
def pl1 (i : grid0.Coords) (arg7 : Memref sig .tc .vmem S1x8x2048 .f32) (arg10 : Memref sig .tc .vmem S1x2x64x2048 .fp8e4m3) (arg12 : Memref sig .tc .vmem S2x128x2048 .fp8e4m3) (arg13 : Memref sig .tc .vmem S2048x128 .fp8e4m3) (arg14 : Memref sig .tc .vmem S2x2048x128 .f32)
    (X_arg7 : BufTy.Contents (Elt F) arg7.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (v287 : FVec F S64x1 .f32) (k : Fin k0_t1_loop.trips) : FVec F S64x256 .f32 :=
  tile (T1 arg12 arg13 arg14 X_arg12 X_arg13 X_arg14 k) (T1 arg12 arg13 arg14 X_arg12 X_arg13 X_arg14 k)
    (fun c => arg10.view.readAt (Elt F) (Rect.unit (s := S1x2x64x2048) ![0, 0, 0, 256 * c.val] S1x1x64x256.size (inb10_0 c)).toLoadRect X_arg10)
    (k0_pay22 (arg7.view.readAt (Elt F) (Rect.unit (s := S1x8x2048) (k0_off4 i k) S1x1x256.size (k0_off4_inb i k)).toLoadRect X_arg7)) v287

set_option maxHeartbeats 4000000 in
/-- One trip's store into the output scratch. -/
theorem trip1_snd (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2x64x2048 .fp8e4m3) (harg6 : arg6.IsWhole) (arg7 : Memref sig .tc .vmem S1x8x2048 .f32) (harg7 : arg7.IsWhole) (arg8 : Memref sig .tc .vmem S1x2x64x2048 .fp8e4m3) (harg8 : arg8.IsWhole) (arg9 : Memref sig .tc .vmem S1x8x2048 .f32) (harg9 : arg9.IsWhole) (arg10 : Memref sig .tc .vmem S1x2x64x2048 .fp8e4m3) (harg10 : arg10.IsWhole) (arg11 : Memref sig .tc .vmem S1x8x64 .f32) (harg11 : arg11.IsWhole) (arg12 : Memref sig .tc .vmem S2x128x2048 .fp8e4m3) (harg12 : arg12.IsWhole) (arg13 : Memref sig .tc .vmem S2048x128 .fp8e4m3) (harg13 : arg13.IsWhole) (arg14 : Memref sig .tc .vmem S2x2048x128 .f32) (harg14 : arg14.IsWhole) (arg15 : Memref sig .tc .vmem S2048x256 .f32) (harg15 : arg15.IsWhole) (arg16 : Memref sig .tc .vmem S128x2048 .f32) (harg16 : arg16.IsWhole) (arg1 : BitVec 32) (v198 : FVec F S64x2048 .f32) (v287 : FVec F S64x1 .f32) (v312 : BitVec 32) (v497 : FVec F S64x2048 .f32) (v586 : FVec F S64x1 .f32) (v598 : FVec F S64x2048 .fp8e4m3) (v618 : BitVec 32) (X_arg7 : BufTy.Contents (Elt F) arg7.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) (f_arg15 : BufTy.Contents (Elt F) arg15.view.ty) (f_arg16 : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v618 X_arg7 X_arg10 X_arg12 X_arg13 X_arg14 k).2.1 f_arg15 f_arg16
      = [⟨Rect.unit (s := S128x2048) (k0_off5 k) S64x256.size (k0_off5_inb k), pl1 i arg7 arg10 arg12 arg13 arg14 X_arg7 X_arg10 X_arg12 X_arg13 X_arg14 v287 k⟩] := by
  have e : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v618 X_arg7 X_arg10 X_arg12 X_arg13 X_arg14 k).2.1 f_arg15 f_arg16
      = [⟨Rect.unit (s := S128x2048) (k0_off5 k) S64x256.size (k0_off5_inb k), tile (T1 arg12 arg13 arg14 X_arg12 X_arg13 X_arg14 k)
          (fun c => arg15.view.readCov (pieces (T1 arg12 arg13 arg14 X_arg12 X_arg13 X_arg14 k)) (Rect.unit (s := S2048x256) ![256 * c.val, 0] S256x256.size (inb15 c)).toLoadRect)
          (fun c => arg10.view.readAt (Elt F) (Rect.unit (s := S1x2x64x2048) ![0, 0, 0, 256 * c.val] S1x1x64x256.size (inb10_0 c)).toLoadRect X_arg10)
          (k0_pay22 (arg7.view.readAt (Elt F) (Rect.unit (s := S1x8x2048) (k0_off4 i k) S1x1x256.size (k0_off4_inb i k)).toLoadRect X_arg7)) v287⟩] := by
    unfold trip_k0_t1
    rfl
  exact e.trans (congrArg (fun U => [(⟨Rect.unit (s := S128x2048) (k0_off5 k) S64x256.size (k0_off5_inb k),
    tile (T1 arg12 arg13 arg14 X_arg12 X_arg13 X_arg14 k) U
      (fun c => arg10.view.readAt (Elt F) (Rect.unit (s := S1x2x64x2048) ![0, 0, 0, 256 * c.val] S1x1x64x256.size (inb10_0 c)).toLoadRect X_arg10)
      (k0_pay22 (arg7.view.readAt (Elt F) (Rect.unit (s := S1x8x2048) (k0_off4 i k) S1x1x256.size (k0_off4_inb i k)).toLoadRect X_arg7)) v287⟩ : View.Piece (Elt F) S128x2048 .f32)])
    (funext fun c => pieces_read (v := arg15.view) (T1 arg12 arg13 arg14 X_arg12 X_arg13 X_arg14 k) c))

theorem trips1_eq : k0_t1_loop.trips = 8 := by decide

/-- What the first `n` trips' stores leave: in this head's rows the trips' outputs, nothing else is said. -/
theorem pb1_read (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2x64x2048 .fp8e4m3) (harg6 : arg6.IsWhole) (arg7 : Memref sig .tc .vmem S1x8x2048 .f32) (harg7 : arg7.IsWhole) (arg8 : Memref sig .tc .vmem S1x2x64x2048 .fp8e4m3) (harg8 : arg8.IsWhole) (arg9 : Memref sig .tc .vmem S1x8x2048 .f32) (harg9 : arg9.IsWhole) (arg10 : Memref sig .tc .vmem S1x2x64x2048 .fp8e4m3) (harg10 : arg10.IsWhole) (arg11 : Memref sig .tc .vmem S1x8x64 .f32) (harg11 : arg11.IsWhole) (arg12 : Memref sig .tc .vmem S2x128x2048 .fp8e4m3) (harg12 : arg12.IsWhole) (arg13 : Memref sig .tc .vmem S2048x128 .fp8e4m3) (harg13 : arg13.IsWhole) (arg14 : Memref sig .tc .vmem S2x2048x128 .f32) (harg14 : arg14.IsWhole) (arg15 : Memref sig .tc .vmem S2048x256 .f32) (harg15 : arg15.IsWhole) (arg16 : Memref sig .tc .vmem S128x2048 .f32) (harg16 : arg16.IsWhole) (arg1 : BitVec 32) (v198 : FVec F S64x2048 .f32) (v287 : FVec F S64x1 .f32) (v312 : BitVec 32) (v497 : FVec F S64x2048 .f32) (v586 : FVec F S64x1 .f32) (v598 : FVec F S64x2048 .fp8e4m3) (v618 : BitVec 32) (X_arg7 : BufTy.Contents (Elt F) arg7.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) (G_arg16 : BufTy.Contents (Elt F) arg16.view.ty)
    (f : BufTy.Contents (Elt F) arg16.view.ty) (L : List (View.Piece (Elt F) S128x2048 .f32)) (n : ℕ) (hn : n ≤ 8) (d : Fin 64) (j : Fin 2048) :
    arg16.view.read (Elt F) (arg16.view.writes (Elt F) f ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v618 X_arg7 X_arg10 X_arg12 X_arg13 X_arg14 G_arg15 G_arg16 n).2 ++ L)) (ix2 ⟨0 + d, by omega⟩ j)
      = if h : j.val < 256 * n then pl1 i arg7 arg10 arg12 arg13 arg14 X_arg7 X_arg10 X_arg12 X_arg13 X_arg14 v287 ⟨j / 256, by rw [trips1_eq]; omega⟩ (ix2 d ⟨j % 256, by omega⟩)
        else arg16.view.read (Elt F) (arg16.view.writes (Elt F) f L) (ix2 ⟨0 + d, by omega⟩ j) := by
  induction n with
  | zero => rw [dif_neg (by omega)]; rfl
  | succ n ih =>
    have hlt : n < k0_t1_loop.trips := by rw [trips1_eq]; omega
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v618 X_arg7 X_arg10 X_arg12 X_arg13 X_arg14 G_arg15 G_arg16 ⟨n, hlt⟩
    rw [show n + 1 = (⟨n, hlt⟩ : Fin k0_t1_loop.trips).val + 1 from rfl, e]
    simp only [trip1_snd]
    rw [List.append_assoc, List.singleton_append]
    by_cases h : 256 * n ≤ j.val ∧ j.val < 256 * (n + 1)
    · rw [dif_pos h.2]
      have hj : j.val / 256 = n := by omega
      rw [View.read_writes_cons_unit_of_mem (off' := ![0, 256 * n]) arg16.view f (k0_off5_inb ⟨n, hlt⟩) _ _ _ (ix2 d ⟨j % 256, by omega⟩) (k0_off5_eq ⟨n, hlt⟩)
        (Fin.forall_fin_two.2 ⟨rfl, by show j.val = 256 * n + j.val % 256; omega⟩)]
      simp only [hj]
    · rw [View.read_writes_cons_unit_of_not_mem (off' := ![0, 256 * n]) arg16.view f (k0_off5_inb ⟨n, hlt⟩) _ _ _ (k0_off5_eq ⟨n, hlt⟩) 1
        (by show j.val < 256 * n ∨ 256 * n + 256 ≤ j.val; omega), ih (by omega)]
      by_cases h2 : j.val < 256 * n
      · rw [dif_pos h2, dif_pos (by omega)]
      · rw [dif_neg h2, dif_neg (show ¬ j.val < 256 * (n + 1) by omega)]

/-! ## Head 1 of the pair -/

/-- The scaled product of chunk `c` of the keys with the queries of trip `k`. -/
def T2 (arg12 : Memref sig .tc .vmem S2x128x2048 .fp8e4m3) (arg13 : Memref sig .tc .vmem S2048x128 .fp8e4m3) (arg14 : Memref sig .tc .vmem S2x2048x128 .f32)
    (X_arg12 : BufTy.Contents (Elt F) arg12.view.ty) (X_arg13 : BufTy.Contents (Elt F) arg13.view.ty) (X_arg14 : BufTy.Contents (Elt F) arg14.view.ty) (k : Fin k0_t2_loop.trips) (c : Fin 8) : FVec F S256x256 .f32 :=
  chunk (arg13.view.readAt (Elt F) (Rect.unit (s := S2048x128) ![256 * c.val, 0] S256x128.size (inb13 c)).toLoadRect X_arg13)
    (arg14.view.readAt (Elt F) (Rect.unit (s := S2x2048x128) ![1, 256 * c.val, 0] S1x256x128.size (inb14_1 c)).toLoadRect X_arg14)
    (arg12.view.readAt (Elt F) (Rect.unit (s := S2x128x2048) (k0_off6 k) S1x128x256.size (k0_off6_inb k)).toLoadRect X_arg12)

/-- What trip `k` stores: the attention output of its 256 queries. -/
def pl2 (i : grid0.Coords) (arg7 : Memref sig .tc .vmem S1x8x2048 .f32) (arg10 : Memref sig .tc .vmem S1x2x64x2048 .fp8e4m3) (arg12 : Memref sig .tc .vmem S2x128x2048 .fp8e4m3) (arg13 : Memref sig .tc .vmem S2048x128 .fp8e4m3) (arg14 : Memref sig .tc .vmem S2x2048x128 .f32)
    (X_arg7 : BufTy.Contents (Elt F) arg7.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (v586 : FVec F S64x1 .f32) (k : Fin k0_t2_loop.trips) : FVec F S64x256 .f32 :=
  tile (T2 arg12 arg13 arg14 X_arg12 X_arg13 X_arg14 k) (T2 arg12 arg13 arg14 X_arg12 X_arg13 X_arg14 k)
    (fun c => arg10.view.readAt (Elt F) (Rect.unit (s := S1x2x64x2048) ![0, 1, 0, 256 * c.val] S1x1x64x256.size (inb10_1 c)).toLoadRect X_arg10)
    (k0_pay61 (arg7.view.readAt (Elt F) (Rect.unit (s := S1x8x2048) (k0_off7 i k) S1x1x256.size (k0_off7_inb i k)).toLoadRect X_arg7)) v586

set_option maxHeartbeats 4000000 in
/-- One trip's store into the output scratch. -/
theorem trip2_snd (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2x64x2048 .fp8e4m3) (harg6 : arg6.IsWhole) (arg7 : Memref sig .tc .vmem S1x8x2048 .f32) (harg7 : arg7.IsWhole) (arg8 : Memref sig .tc .vmem S1x2x64x2048 .fp8e4m3) (harg8 : arg8.IsWhole) (arg9 : Memref sig .tc .vmem S1x8x2048 .f32) (harg9 : arg9.IsWhole) (arg10 : Memref sig .tc .vmem S1x2x64x2048 .fp8e4m3) (harg10 : arg10.IsWhole) (arg11 : Memref sig .tc .vmem S1x8x64 .f32) (harg11 : arg11.IsWhole) (arg12 : Memref sig .tc .vmem S2x128x2048 .fp8e4m3) (harg12 : arg12.IsWhole) (arg13 : Memref sig .tc .vmem S2048x128 .fp8e4m3) (harg13 : arg13.IsWhole) (arg14 : Memref sig .tc .vmem S2x2048x128 .f32) (harg14 : arg14.IsWhole) (arg15 : Memref sig .tc .vmem S2048x256 .f32) (harg15 : arg15.IsWhole) (arg16 : Memref sig .tc .vmem S128x2048 .f32) (harg16 : arg16.IsWhole) (arg1 : BitVec 32) (v198 : FVec F S64x2048 .f32) (v287 : FVec F S64x1 .f32) (v312 : BitVec 32) (v497 : FVec F S64x2048 .f32) (v586 : FVec F S64x1 .f32) (v598 : FVec F S64x2048 .fp8e4m3) (v621 : BitVec 32) (X_arg7 : BufTy.Contents (Elt F) arg7.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t2_loop.trips) (f_arg15 : BufTy.Contents (Elt F) arg15.view.ty) (f_arg16 : BufTy.Contents (Elt F) arg16.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v621 X_arg7 X_arg10 X_arg12 X_arg13 X_arg14 k).2.1 f_arg15 f_arg16
      = [⟨Rect.unit (s := S128x2048) (k0_off8 k) S64x256.size (k0_off8_inb k), pl2 i arg7 arg10 arg12 arg13 arg14 X_arg7 X_arg10 X_arg12 X_arg13 X_arg14 v586 k⟩] := by
  have e : (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v621 X_arg7 X_arg10 X_arg12 X_arg13 X_arg14 k).2.1 f_arg15 f_arg16
      = [⟨Rect.unit (s := S128x2048) (k0_off8 k) S64x256.size (k0_off8_inb k), tile (T2 arg12 arg13 arg14 X_arg12 X_arg13 X_arg14 k)
          (fun c => arg15.view.readCov (pieces (T2 arg12 arg13 arg14 X_arg12 X_arg13 X_arg14 k)) (Rect.unit (s := S2048x256) ![256 * c.val, 0] S256x256.size (inb15 c)).toLoadRect)
          (fun c => arg10.view.readAt (Elt F) (Rect.unit (s := S1x2x64x2048) ![0, 1, 0, 256 * c.val] S1x1x64x256.size (inb10_1 c)).toLoadRect X_arg10)
          (k0_pay61 (arg7.view.readAt (Elt F) (Rect.unit (s := S1x8x2048) (k0_off7 i k) S1x1x256.size (k0_off7_inb i k)).toLoadRect X_arg7)) v586⟩] := by
    unfold trip_k0_t2
    rfl
  exact e.trans (congrArg (fun U => [(⟨Rect.unit (s := S128x2048) (k0_off8 k) S64x256.size (k0_off8_inb k),
    tile (T2 arg12 arg13 arg14 X_arg12 X_arg13 X_arg14 k) U
      (fun c => arg10.view.readAt (Elt F) (Rect.unit (s := S1x2x64x2048) ![0, 1, 0, 256 * c.val] S1x1x64x256.size (inb10_1 c)).toLoadRect X_arg10)
      (k0_pay61 (arg7.view.readAt (Elt F) (Rect.unit (s := S1x8x2048) (k0_off7 i k) S1x1x256.size (k0_off7_inb i k)).toLoadRect X_arg7)) v586⟩ : View.Piece (Elt F) S128x2048 .f32)])
    (funext fun c => pieces_read (v := arg15.view) (T2 arg12 arg13 arg14 X_arg12 X_arg13 X_arg14 k) c))

theorem trips2_eq : k0_t2_loop.trips = 8 := by decide

/-- What the first `n` trips' stores leave: in this head's rows the trips' outputs, the other head's rows as they were. -/
theorem pb2_read (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2x64x2048 .fp8e4m3) (harg6 : arg6.IsWhole) (arg7 : Memref sig .tc .vmem S1x8x2048 .f32) (harg7 : arg7.IsWhole) (arg8 : Memref sig .tc .vmem S1x2x64x2048 .fp8e4m3) (harg8 : arg8.IsWhole) (arg9 : Memref sig .tc .vmem S1x8x2048 .f32) (harg9 : arg9.IsWhole) (arg10 : Memref sig .tc .vmem S1x2x64x2048 .fp8e4m3) (harg10 : arg10.IsWhole) (arg11 : Memref sig .tc .vmem S1x8x64 .f32) (harg11 : arg11.IsWhole) (arg12 : Memref sig .tc .vmem S2x128x2048 .fp8e4m3) (harg12 : arg12.IsWhole) (arg13 : Memref sig .tc .vmem S2048x128 .fp8e4m3) (harg13 : arg13.IsWhole) (arg14 : Memref sig .tc .vmem S2x2048x128 .f32) (harg14 : arg14.IsWhole) (arg15 : Memref sig .tc .vmem S2048x256 .f32) (harg15 : arg15.IsWhole) (arg16 : Memref sig .tc .vmem S128x2048 .f32) (harg16 : arg16.IsWhole) (arg1 : BitVec 32) (v198 : FVec F S64x2048 .f32) (v287 : FVec F S64x1 .f32) (v312 : BitVec 32) (v497 : FVec F S64x2048 .f32) (v586 : FVec F S64x1 .f32) (v598 : FVec F S64x2048 .fp8e4m3) (v621 : BitVec 32) (X_arg7 : BufTy.Contents (Elt F) arg7.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) (G_arg16 : BufTy.Contents (Elt F) arg16.view.ty)
    (f : BufTy.Contents (Elt F) arg16.view.ty) (L : List (View.Piece (Elt F) S128x2048 .f32)) (n : ℕ) (hn : n ≤ 8) (d : Fin 64) (j : Fin 2048) :
    arg16.view.read (Elt F) (arg16.view.writes (Elt F) f ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v621 X_arg7 X_arg10 X_arg12 X_arg13 X_arg14 G_arg15 G_arg16 n).2 ++ L)) (ix2 ⟨64 + d, by omega⟩ j)
      = if h : j.val < 256 * n then pl2 i arg7 arg10 arg12 arg13 arg14 X_arg7 X_arg10 X_arg12 X_arg13 X_arg14 v586 ⟨j / 256, by rw [trips2_eq]; omega⟩ (ix2 d ⟨j % 256, by omega⟩)
        else arg16.view.read (Elt F) (arg16.view.writes (Elt F) f L) (ix2 ⟨64 + d, by omega⟩ j) := by
  induction n with
  | zero => rw [dif_neg (by omega)]; rfl
  | succ n ih =>
    have hlt : n < k0_t2_loop.trips := by rw [trips2_eq]; omega
    have e := pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v621 X_arg7 X_arg10 X_arg12 X_arg13 X_arg14 G_arg15 G_arg16 ⟨n, hlt⟩
    rw [show n + 1 = (⟨n, hlt⟩ : Fin k0_t2_loop.trips).val + 1 from rfl, e]
    simp only [trip2_snd]
    rw [List.append_assoc, List.singleton_append]
    by_cases h : 256 * n ≤ j.val ∧ j.val < 256 * (n + 1)
    · rw [dif_pos h.2]
      have hj : j.val / 256 = n := by omega
      rw [View.read_writes_cons_unit_of_mem (off' := ![64, 256 * n]) arg16.view f (k0_off8_inb ⟨n, hlt⟩) _ _ _ (ix2 d ⟨j % 256, by omega⟩) (k0_off8_eq ⟨n, hlt⟩)
        (Fin.forall_fin_two.2 ⟨rfl, by show j.val = 256 * n + j.val % 256; omega⟩)]
      simp only [hj]
    · rw [View.read_writes_cons_unit_of_not_mem (off' := ![64, 256 * n]) arg16.view f (k0_off8_inb ⟨n, hlt⟩) _ _ _ (k0_off8_eq ⟨n, hlt⟩) 1
        (by show j.val < 256 * n ∨ 256 * n + 256 ≤ j.val; omega), ih (by omega)]
      by_cases h2 : j.val < 256 * n
      · rw [dif_pos h2, dif_pos (by omega)]
      · rw [dif_neg h2, dif_neg (show ¬ j.val < 256 * (n + 1) by omega)]

/-- The second head's stores leave the first head's rows alone. -/
theorem pb2_read_other (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2x64x2048 .fp8e4m3) (harg6 : arg6.IsWhole) (arg7 : Memref sig .tc .vmem S1x8x2048 .f32) (harg7 : arg7.IsWhole) (arg8 : Memref sig .tc .vmem S1x2x64x2048 .fp8e4m3) (harg8 : arg8.IsWhole) (arg9 : Memref sig .tc .vmem S1x8x2048 .f32) (harg9 : arg9.IsWhole) (arg10 : Memref sig .tc .vmem S1x2x64x2048 .fp8e4m3) (harg10 : arg10.IsWhole) (arg11 : Memref sig .tc .vmem S1x8x64 .f32) (harg11 : arg11.IsWhole) (arg12 : Memref sig .tc .vmem S2x128x2048 .fp8e4m3) (harg12 : arg12.IsWhole) (arg13 : Memref sig .tc .vmem S2048x128 .fp8e4m3) (harg13 : arg13.IsWhole) (arg14 : Memref sig .tc .vmem S2x2048x128 .f32) (harg14 : arg14.IsWhole) (arg15 : Memref sig .tc .vmem S2048x256 .f32) (harg15 : arg15.IsWhole) (arg16 : Memref sig .tc .vmem S128x2048 .f32) (harg16 : arg16.IsWhole) (arg1 : BitVec 32) (v198 : FVec F S64x2048 .f32) (v287 : FVec F S64x1 .f32) (v312 : BitVec 32) (v497 : FVec F S64x2048 .f32) (v586 : FVec F S64x1 .f32) (v598 : FVec F S64x2048 .fp8e4m3) (v621 : BitVec 32) (X_arg7 : BufTy.Contents (Elt F) arg7.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) (G_arg16 : BufTy.Contents (Elt F) arg16.view.ty)
    (f : BufTy.Contents (Elt F) arg16.view.ty) (L : List (View.Piece (Elt F) S128x2048 .f32)) (n : ℕ) (hn : n ≤ 8) (d : Fin 64) (j : Fin 2048) :
    arg16.view.read (Elt F) (arg16.view.writes (Elt F) f ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v621 X_arg7 X_arg10 X_arg12 X_arg13 X_arg14 G_arg15 G_arg16 n).2 ++ L)) (ix2 ⟨d, by omega⟩ j)
      = arg16.view.read (Elt F) (arg16.view.writes (Elt F) f L) (ix2 ⟨d, by omega⟩ j) := by
  induction n with
  | zero => rfl
  | succ n ih =>
    have hlt : n < k0_t2_loop.trips := by rw [trips2_eq]; omega
    have e := pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v621 X_arg7 X_arg10 X_arg12 X_arg13 X_arg14 G_arg15 G_arg16 ⟨n, hlt⟩
    rw [show n + 1 = (⟨n, hlt⟩ : Fin k0_t2_loop.trips).val + 1 from rfl, e]
    simp only [trip2_snd]
    rw [List.append_assoc, List.singleton_append,
      View.read_writes_cons_unit_of_not_mem (off' := ![64, 256 * n]) arg16.view f (k0_off8_inb ⟨n, hlt⟩) _ _ _ (k0_off8_eq ⟨n, hlt⟩) 0
        (by show d.val < 64 ∨ 64 + 64 ≤ d.val; omega), ih (by omega)]

end Cert.KernelIdeal.Loop

end
-- ==== Proof.LoopVal.lean ====
/- The value of a trip of the attention loops over the reals: the attention output of each of its 256 queries. -/
module

public import proofs.«01_k».proof.Proof.Loop

@[expose] public section

set_option maxRecDepth 16384

noncomputable section

namespace Cert.KernelIdeal.Loop

open Idealize.ShloMosaic Idealize.ShloMosaic.TcCoe Cert.KernelIdeal Cert.KernelIdeal.Gen Cert.KernelIdeal.Tile Cert.Spec

theorem chunk_apply (kn : Vec Ideal S256x128 .fp8e4m3) (kb : Vec Ideal S1x256x128 .f32) (qz : Vec Ideal S1x128x256 .fp8e4m3)
    (K : Fin 256 → Fin 128 → ℝ) (B : Fin 256 → ℝ) (Q : Fin 128 → Fin 256 → ℝ)
    (hk : ∀ a d, kn (ix2 a d) = (K a d : EReal)) (hb : ∀ a x, kb (ix3 0 a x) = (B a : EReal)) (hq : ∀ d b, qz (ix3 0 d b) = (Q d b : EReal))
    (a : Fin 256) (b : Fin 256) :
    chunk kn kb qz (ix2 a b) = (((∑ d, K a d * Q d b) * B a : ℝ) : EReal) := by
  pointwise [chunk]
  simp only [hk, hb, hq, ite_self, dite_eq_ite, ← EReal.coe_mul]
  rw [coe_sum, ← EReal.coe_mul]

theorem scale_apply (x : Vec Ideal S1x1x256 .f32) (s : Fin 256 → ℝ) (h : ∀ b, x (ix3 0 0 b) = (s b : EReal)) (b : Fin 256) :
    k0_pay22 x (ix2 0 b) = ((s b * ((1 / 8) * (Real.log 2)⁻¹) : ℝ) : EReal) := by
  have e := (IdealRules.named_const.statement Cert.KernelIdeal.κ "scale_log2e" .f32 0x3E38AA3B#32 (((1 / 8) * (Real.log 2)⁻¹ : ℝ) : EReal) rfl).2.2
  pointwise [k0_pay22]
  rw [h, EReal.coe_mul]
  exact congrArg _ e

theorem T1_apply (arg12 : Memref sig .tc .vmem S2x128x2048 .fp8e4m3) (arg13 : Memref sig .tc .vmem S2048x128 .fp8e4m3) (arg14 : Memref sig .tc .vmem S2x2048x128 .f32)
    (X12 : BufTy.Contents (Elt Ideal) arg12.view.ty) (X13 : BufTy.Contents (Elt Ideal) arg13.view.ty) (X14 : BufTy.Contents (Elt Ideal) arg14.view.ty)
    (Q : Fin 128 → Fin 2048 → ℝ) (K : Fin 2048 → Fin 128 → ℝ) (B : Fin 2048 → ℝ)
    (h12 : ∀ d j, arg12.view.read (Elt Ideal) X12 (ix3 0 d j) = (Q d j : EReal))
    (h13 : ∀ j d, arg13.view.read (Elt Ideal) X13 (ix2 j d) = (K j d : EReal))
    (h14 : ∀ j x, arg14.view.read (Elt Ideal) X14 (ix3 0 j x) = (B j : EReal))
    (k : Fin k0_t1_loop.trips) (hk : k.val < 8) (c : Fin 8) (a b : Fin 256) :
    T1 arg12 arg13 arg14 X12 X13 X14 k c (ix2 a b)
      = (((∑ d, K ⟨256 * c + a, by omega⟩ d * Q d ⟨256 * k + b, by omega⟩) * B ⟨256 * c + a, by omega⟩ : ℝ) : EReal) := by
  refine chunk_apply _ _ _ (fun a d => K ⟨256 * c + a, by omega⟩ d) (fun a => B ⟨256 * c + a, by omega⟩) (fun d b => Q d ⟨256 * k + b, by omega⟩) ?_ ?_ ?_ a b
  · intro a d
    refine Eq.trans (congrArg (arg13.view.read (Elt Ideal) X13) ?_) (h13 _ d)
    funext x; fin_cases x <;> apply Fin.ext <;> simp [Rect.toLoadRect, Rect.unit, LoadRect.idx, ix2]
  · intro a x
    refine Eq.trans (congrArg (arg14.view.read (Elt Ideal) X14) ?_) (h14 _ x)
    funext y; fin_cases y <;> apply Fin.ext <;> simp [Rect.toLoadRect, Rect.unit, LoadRect.idx, ix3]
  · intro d b
    refine Eq.trans (congrFun (View.readAt_unit arg12.view X12 (k0_off3_inb k) (k0_off3_eq k) (by rw [← k0_off3_eq k]; exact k0_off3_inb k)) (ix3 0 d b)) ?_
    refine Eq.trans (congrArg (arg12.view.read (Elt Ideal) X12) ?_) (h12 d _)
    funext y; fin_cases y <;> apply Fin.ext <;> simp [ix3]

/-- Trip `k` stores, for each value channel and each of its queries, the attention output. -/
theorem pl1_apply (i : grid0.Coords) (arg7 : Memref sig .tc .vmem S1x8x2048 .f32) (arg10 : Memref sig .tc .vmem S1x2x64x2048 .fp8e4m3)
    (arg12 : Memref sig .tc .vmem S2x128x2048 .fp8e4m3) (arg13 : Memref sig .tc .vmem S2048x128 .fp8e4m3) (arg14 : Memref sig .tc .vmem S2x2048x128 .f32)
    (X7 : BufTy.Contents (Elt Ideal) arg7.view.ty) (X10 : BufTy.Contents (Elt Ideal) arg10.view.ty)
    (X12 : BufTy.Contents (Elt Ideal) arg12.view.ty) (X13 : BufTy.Contents (Elt Ideal) arg13.view.ty) (X14 : BufTy.Contents (Elt Ideal) arg14.view.ty) (v287 : FVec Ideal S64x1 .f32)
    (Q : Fin 128 → Fin 2048 → ℝ) (K : Fin 2048 → Fin 128 → ℝ) (B : Fin 2048 → ℝ) (s : Fin 2048 → ℝ) (V : Fin 64 → Fin 2048 → ℝ) (w : Fin 64 → ℝ)
    (h7 : ∀ j (r : Fin 8), r.val = 2 * (i 1).val → arg7.view.read (Elt Ideal) X7 (ix3 0 r j) = (s j : EReal)) (hs : ∀ j, 0 ≤ s j)
    (h10 : ∀ d j, arg10.view.read (Elt Ideal) X10 (ix4 0 0 d j) = (V d j : EReal))
    (h12 : ∀ d j, arg12.view.read (Elt Ideal) X12 (ix3 0 d j) = (Q d j : EReal))
    (h13 : ∀ j d, arg13.view.read (Elt Ideal) X13 (ix2 j d) = (K j d : EReal))
    (h14 : ∀ j x, arg14.view.read (Elt Ideal) X14 (ix3 0 j x) = (B j : EReal))
    (hv : ∀ d, v287 (ix2 d 0) = (w d : EReal))
    (k : Fin k0_t1_loop.trips) (hk : k.val < 8) (d : Fin 64) (b : Fin 256) :
    pl1 i arg7 arg10 arg12 arg13 arg14 X7 X10 X12 X13 X14 v287 k (ix2 d b)
      = ((attn (fun j => (∑ x, K j x * Q x ⟨256 * k + b, by omega⟩) * B j * (s ⟨256 * k + b, by omega⟩ / 8)) (V d) (w d) : ℝ) : EReal) := by
  have hi : (i 1).val < 4 := (i 1).isLt
  have hT := T1_apply arg12 arg13 arg14 X12 X13 X14 Q K B h12 h13 h14 k hk
  refine tile_apply _ _ _ _ _ (fun j b => (∑ x, K j x * Q x ⟨256 * k + b, by omega⟩) * B j) V (fun b => s ⟨256 * k + b, by omega⟩) w hT hT ?_ ?_ (fun b => hs _) hv d b
  · intro c d a
    refine Eq.trans (congrArg (arg10.view.read (Elt Ideal) X10) ?_) (h10 d _)
    funext y; fin_cases y <;> apply Fin.ext <;> simp [Rect.toLoadRect, Rect.unit, LoadRect.idx, ix4]
  · intro b
    refine scale_apply _ (fun b => s ⟨256 * k + b, by omega⟩) (fun b => ?_) b
    refine Eq.trans (congrFun (View.readAt_unit arg7.view X7 (k0_off4_inb i k) (k0_off4_eq i k) (by rw [← k0_off4_eq i k]; exact k0_off4_inb i k)) (ix3 0 0 b)) ?_
    refine Eq.trans (congrArg (arg7.view.read (Elt Ideal) X7) ?_) (h7 ⟨256 * k + b, by omega⟩ ⟨2 * (i 1).val, by omega⟩ rfl)
    funext y; fin_cases y <;> apply Fin.ext <;> simp [ix3]

theorem T2_apply (arg12 : Memref sig .tc .vmem S2x128x2048 .fp8e4m3) (arg13 : Memref sig .tc .vmem S2048x128 .fp8e4m3) (arg14 : Memref sig .tc .vmem S2x2048x128 .f32)
    (X12 : BufTy.Contents (Elt Ideal) arg12.view.ty) (X13 : BufTy.Contents (Elt Ideal) arg13.view.ty) (X14 : BufTy.Contents (Elt Ideal) arg14.view.ty)
    (Q : Fin 128 → Fin 2048 → ℝ) (K : Fin 2048 → Fin 128 → ℝ) (B : Fin 2048 → ℝ)
    (h12 : ∀ d j, arg12.view.read (Elt Ideal) X12 (ix3 1 d j) = (Q d j : EReal))
    (h13 : ∀ j d, arg13.view.read (Elt Ideal) X13 (ix2 j d) = (K j d : EReal))
    (h14 : ∀ j x, arg14.view.read (Elt Ideal) X14 (ix3 1 j x) = (B j : EReal))
    (k : Fin k0_t2_loop.trips) (hk : k.val < 8) (c : Fin 8) (a b : Fin 256) :
    T2 arg12 arg13 arg14 X12 X13 X14 k c (ix2 a b)
      = (((∑ d, K ⟨256 * c + a, by omega⟩ d * Q d ⟨256 * k + b, by omega⟩) * B ⟨256 * c + a, by omega⟩ : ℝ) : EReal) := by
  refine chunk_apply _ _ _ (fun a d => K ⟨256 * c + a, by omega⟩ d) (fun a => B ⟨256 * c + a, by omega⟩) (fun d b => Q d ⟨256 * k + b, by omega⟩) ?_ ?_ ?_ a b
  · intro a d
    refine Eq.trans (congrArg (arg13.view.read (Elt Ideal) X13) ?_) (h13 _ d)
    funext x; fin_cases x <;> apply Fin.ext <;> simp [Rect.toLoadRect, Rect.unit, LoadRect.idx, ix2]
  · intro a x
    refine Eq.trans (congrArg (arg14.view.read (Elt Ideal) X14) ?_) (h14 _ x)
    funext y; fin_cases y <;> apply Fin.ext <;> simp [Rect.toLoadRect, Rect.unit, LoadRect.idx, ix3]
  · intro d b
    refine Eq.trans (congrFun (View.readAt_unit arg12.view X12 (k0_off6_inb k) (k0_off6_eq k) (by rw [← k0_off6_eq k]; exact k0_off6_inb k)) (ix3 0 d b)) ?_
    refine Eq.trans (congrArg (arg12.view.read (Elt Ideal) X12) ?_) (h12 d _)
    funext y; fin_cases y <;> apply Fin.ext <;> simp [ix3]

/-- Trip `k` stores, for each value channel and each of its queries, the attention output. -/
theorem pl2_apply (i : grid0.Coords) (arg7 : Memref sig .tc .vmem S1x8x2048 .f32) (arg10 : Memref sig .tc .vmem S1x2x64x2048 .fp8e4m3)
    (arg12 : Memref sig .tc .vmem S2x128x2048 .fp8e4m3) (arg13 : Memref sig .tc .vmem S2048x128 .fp8e4m3) (arg14 : Memref sig .tc .vmem S2x2048x128 .f32)
    (X7 : BufTy.Contents (Elt Ideal) arg7.view.ty) (X10 : BufTy.Contents (Elt Ideal) arg10.view.ty)
    (X12 : BufTy.Contents (Elt Ideal) arg12.view.ty) (X13 : BufTy.Contents (Elt Ideal) arg13.view.ty) (X14 : BufTy.Contents (Elt Ideal) arg14.view.ty) (v586 : FVec Ideal S64x1 .f32)
    (Q : Fin 128 → Fin 2048 → ℝ) (K : Fin 2048 → Fin 128 → ℝ) (B : Fin 2048 → ℝ) (s : Fin 2048 → ℝ) (V : Fin 64 → Fin 2048 → ℝ) (w : Fin 64 → ℝ)
    (h7 : ∀ j (r : Fin 8), r.val = 2 * (i 1).val + 1 → arg7.view.read (Elt Ideal) X7 (ix3 0 r j) = (s j : EReal)) (hs : ∀ j, 0 ≤ s j)
    (h10 : ∀ d j, arg10.view.read (Elt Ideal) X10 (ix4 0 1 d j) = (V d j : EReal))
    (h12 : ∀ d j, arg12.view.read (Elt Ideal) X12 (ix3 1 d j) = (Q d j : EReal))
    (h13 : ∀ j d, arg13.view.read (Elt Ideal) X13 (ix2 j d) = (K j d : EReal))
    (h14 : ∀ j x, arg14.view.read (Elt Ideal) X14 (ix3 1 j x) = (B j : EReal))
    (hv : ∀ d, v586 (ix2 d 0) = (w d : EReal))
    (k : Fin k0_t2_loop.trips) (hk : k.val < 8) (d : Fin 64) (b : Fin 256) :
    pl2 i arg7 arg10 arg12 arg13 arg14 X7 X10 X12 X13 X14 v586 k (ix2 d b)
      = ((attn (fun j => (∑ x, K j x * Q x ⟨256 * k + b, by omega⟩) * B j * (s ⟨256 * k + b, by omega⟩ / 8)) (V d) (w d) : ℝ) : EReal) := by
  have hi : (i 1).val < 4 := (i 1).isLt
  have hT := T2_apply arg12 arg13 arg14 X12 X13 X14 Q K B h12 h13 h14 k hk
  refine tile_apply _ _ _ _ _ (fun j b => (∑ x, K j x * Q x ⟨256 * k + b, by omega⟩) * B j) V (fun b => s ⟨256 * k + b, by omega⟩) w hT hT ?_ ?_ (fun b => hs _) hv d b
  · intro c d a
    refine Eq.trans (congrArg (arg10.view.read (Elt Ideal) X10) ?_) (h10 d _)
    funext y; fin_cases y <;> apply Fin.ext <;> simp [Rect.toLoadRect, Rect.unit, LoadRect.idx, ix4]
  · intro b
    refine scale_apply _ (fun b => s ⟨256 * k + b, by omega⟩) (fun b => ?_) b
    refine Eq.trans (congrFun (View.readAt_unit arg7.view X7 (k0_off7_inb i k) (k0_off7_eq i k) (by rw [← k0_off7_eq i k]; exact k0_off7_inb i k)) (ix3 0 0 b)) ?_
    refine Eq.trans (congrArg (arg7.view.read (Elt Ideal) X7) ?_) (h7 ⟨256 * k + b, by omega⟩ ⟨2 * (i 1).val + 1, by omega⟩ rfl)
    funext y; fin_cases y <;> apply Fin.ext <;> simp [ix3]

end Cert.KernelIdeal.Loop

end
-- ==== Proof.Store.lean ====
/- What the body's buffers read after its stores, over the reals, from one block of each operand. -/
module

public import proofs.«01_k».proof.Proof.Quant
public import proofs.«01_k».proof.Proof.LoopVal

@[expose] public section

set_option maxRecDepth 16384

noncomputable section

namespace Cert.KernelIdeal.Store

open Idealize.ShloMosaic Idealize.ShloMosaic.TcCoe Cert.KernelIdeal Cert.KernelIdeal.Gen Cert.KernelIdeal.Quant Cert.KernelIdeal.Loop Cert.Spec

section Reads
variable {F : FTy → Type} [FloatOps F]

theorem codes_read0 (a : Memref sig .tc .vmem S1x2x64x2048 .fp8e4m3) (f : BufTy.Contents (Elt F) a.view.ty) (c0 c1 : Vec F S1x1x64x2048 .fp8e4m3) (d : Fin 64) (i : Fin 2048) :
    a.view.read (Elt F) (a.view.writes (Elt F) f [⟨Rect.unit ![0, 1, 0, 0] S1x1x64x2048.size inb_S1x2x64x2048_S1x1x64x2048_0_1_0_0, c1⟩, ⟨Rect.unit ![0, 0, 0, 0] S1x1x64x2048.size inb_S1x2x64x2048_S1x1x64x2048_0_0_0_0, c0⟩]) (ix4 0 0 d i) = c0 (ix4 0 0 d i) := by
  rw [View.read_writes_cons_unit_of_not_mem (off' := ![0, 1, 0, 0]) a.view f _ _ _ _ rfl 1 (Or.inl (by simp [ix4]))]
  exact View.read_writes_cons_unit_of_mem (off' := ![0, 0, 0, 0]) a.view f _ _ _ _ _ rfl (by intro a; fin_cases a <;> simp [ix4])

theorem codes_read1 (a : Memref sig .tc .vmem S1x2x64x2048 .fp8e4m3) (f : BufTy.Contents (Elt F) a.view.ty) (c0 c1 : Vec F S1x1x64x2048 .fp8e4m3) (d : Fin 64) (i : Fin 2048) :
    a.view.read (Elt F) (a.view.writes (Elt F) f [⟨Rect.unit ![0, 1, 0, 0] S1x1x64x2048.size inb_S1x2x64x2048_S1x1x64x2048_0_1_0_0, c1⟩, ⟨Rect.unit ![0, 0, 0, 0] S1x1x64x2048.size inb_S1x2x64x2048_S1x1x64x2048_0_0_0_0, c0⟩]) (ix4 0 1 d i) = c1 (ix4 0 0 d i) :=
  View.read_writes_cons_unit_of_mem (off' := ![0, 1, 0, 0]) a.view f _ _ _ _ _ rfl (by intro a; fin_cases a <;> simp [ix4])

theorem qz_read0 (a : Memref sig .tc .vmem S2x128x2048 .fp8e4m3) (f : BufTy.Contents (Elt F) a.view.ty) (c0 c1 : Vec F S1x128x2048 .fp8e4m3) (x : Fin 128) (i : Fin 2048) :
    a.view.read (Elt F) (a.view.writes (Elt F) f [⟨Rect.unit ![1, 0, 0] S1x128x2048.size inb_S2x128x2048_S1x128x2048_1_0_0, c1⟩, ⟨Rect.unit ![0, 0, 0] S1x128x2048.size inb_S2x128x2048_S1x128x2048_0_0_0, c0⟩]) (ix3 0 x i) = c0 (ix3 0 x i) := by
  rw [View.read_writes_cons_unit_of_not_mem (off' := ![1, 0, 0]) a.view f _ _ _ _ rfl 0 (Or.inl (by simp [ix3]))]
  exact View.read_writes_cons_unit_of_mem (off' := ![0, 0, 0]) a.view f _ _ _ _ _ rfl (by intro a; fin_cases a <;> simp [ix3])

theorem qz_read1 (a : Memref sig .tc .vmem S2x128x2048 .fp8e4m3) (f : BufTy.Contents (Elt F) a.view.ty) (c0 c1 : Vec F S1x128x2048 .fp8e4m3) (x : Fin 128) (i : Fin 2048) :
    a.view.read (Elt F) (a.view.writes (Elt F) f [⟨Rect.unit ![1, 0, 0] S1x128x2048.size inb_S2x128x2048_S1x128x2048_1_0_0, c1⟩, ⟨Rect.unit ![0, 0, 0] S1x128x2048.size inb_S2x128x2048_S1x128x2048_0_0_0, c0⟩]) (ix3 1 x i) = c1 (ix3 0 x i) :=
  View.read_writes_cons_unit_of_mem (off' := ![1, 0, 0]) a.view f _ _ _ _ _ rfl (by intro a; fin_cases a <;> simp [ix3])

theorem kb_read0 (a : Memref sig .tc .vmem S2x2048x128 .f32) (f : BufTy.Contents (Elt F) a.view.ty) (c0 c1 : Vec F S1x2048x128 .f32) (j : Fin 2048) (l : Fin 128) :
    a.view.read (Elt F) (a.view.writes (Elt F) f [⟨Rect.unit ![1, 0, 0] S1x2048x128.size inb_S2x2048x128_S1x2048x128_1_0_0, c1⟩, ⟨Rect.unit ![0, 0, 0] S1x2048x128.size inb_S2x2048x128_S1x2048x128_0_0_0, c0⟩]) (ix3 0 j l) = c0 (ix3 0 j l) := by
  rw [View.read_writes_cons_unit_of_not_mem (off' := ![1, 0, 0]) a.view f _ _ _ _ rfl 0 (Or.inl (by simp [ix3]))]
  exact View.read_writes_cons_unit_of_mem (off' := ![0, 0, 0]) a.view f _ _ _ _ _ rfl (by intro a; fin_cases a <;> simp [ix3])

theorem kb_read1 (a : Memref sig .tc .vmem S2x2048x128 .f32) (f : BufTy.Contents (Elt F) a.view.ty) (c0 c1 : Vec F S1x2048x128 .f32) (j : Fin 2048) (l : Fin 128) :
    a.view.read (Elt F) (a.view.writes (Elt F) f [⟨Rect.unit ![1, 0, 0] S1x2048x128.size inb_S2x2048x128_S1x2048x128_1_0_0, c1⟩, ⟨Rect.unit ![0, 0, 0] S1x2048x128.size inb_S2x2048x128_S1x2048x128_0_0_0, c0⟩]) (ix3 1 j l) = c1 (ix3 0 j l) :=
  View.read_writes_cons_unit_of_mem (off' := ![1, 0, 0]) a.view f _ _ _ _ _ rfl (by intro a; fin_cases a <;> simp [ix3])

theorem row_read0 (a : Memref sig .tc .vmem S1x8x2048 .f32) (i : grid0.Coords) (f : BufTy.Contents (Elt F) a.view.ty) (inb1 : ∀ x, (k0_off1 i 1#32) x + S1x1x2048.size x ≤ S1x8x2048.size x) (inb0 : ∀ x, (k0_off1 i 0#32) x + S1x1x2048.size x ≤ S1x8x2048.size x) (c0 c1 : Vec F S1x1x2048 .f32) (r : Fin 8) (j : Fin 2048) (hr : r.val = 2 * (i 1).val) :
    a.view.read (Elt F) (a.view.writes (Elt F) f [⟨Rect.unit (k0_off1 i 1#32) S1x1x2048.size inb1, c1⟩, ⟨Rect.unit (k0_off1 i 0#32) S1x1x2048.size inb0, c0⟩]) (ix3 0 r j) = c0 (ix3 0 0 j) := by
  rw [View.read_writes_cons_unit_of_not_mem (off' := ![0, 2 * (i 1).val + 1, 0]) a.view f _ _ _ _ (show k0_off1 i 1#32 = ![0, 2 * (i 1).val + 1, 0] from k0_off1_eq i ⟨1, by decide⟩) 1 (Or.inl (by show r.val < 2 * (i 1).val + 1; omega))]
  exact View.read_writes_cons_unit_of_mem (off' := ![0, 2 * (i 1).val + 0, 0]) a.view f _ _ _ _ _ (show k0_off1 i 0#32 = ![0, 2 * (i 1).val + 0, 0] from k0_off1_eq i ⟨0, by decide⟩) (by intro x; fin_cases x <;> simp [ix3, hr])

theorem row_read1 (a : Memref sig .tc .vmem S1x8x2048 .f32) (i : grid0.Coords) (f : BufTy.Contents (Elt F) a.view.ty) (inb1 : ∀ x, (k0_off1 i 1#32) x + S1x1x2048.size x ≤ S1x8x2048.size x) (inb0 : ∀ x, (k0_off1 i 0#32) x + S1x1x2048.size x ≤ S1x8x2048.size x) (c0 c1 : Vec F S1x1x2048 .f32) (r : Fin 8) (j : Fin 2048) (hr : r.val = 2 * (i 1).val + 1) :
    a.view.read (Elt F) (a.view.writes (Elt F) f [⟨Rect.unit (k0_off1 i 1#32) S1x1x2048.size inb1, c1⟩, ⟨Rect.unit (k0_off1 i 0#32) S1x1x2048.size inb0, c0⟩]) (ix3 0 r j) = c1 (ix3 0 0 j) :=
  View.read_writes_cons_unit_of_mem (off' := ![0, 2 * (i 1).val + 1, 0]) a.view f _ _ _ _ _ (show k0_off1 i 1#32 = ![0, 2 * (i 1).val + 1, 0] from k0_off1_eq i ⟨1, by decide⟩) (by intro x; fin_cases x <;> simp [ix3, hr])

theorem row_read_other (a : Memref sig .tc .vmem S1x8x2048 .f32) (i : grid0.Coords) (f : BufTy.Contents (Elt F) a.view.ty) (inb1 : ∀ x, (k0_off1 i 1#32) x + S1x1x2048.size x ≤ S1x8x2048.size x) (inb0 : ∀ x, (k0_off1 i 0#32) x + S1x1x2048.size x ≤ S1x8x2048.size x) (c0 c1 : Vec F S1x1x2048 .f32) (r : Fin 8) (j : Fin 2048) (h0 : r.val ≠ 2 * (i 1).val) (h1 : r.val ≠ 2 * (i 1).val + 1) :
    a.view.read (Elt F) (a.view.writes (Elt F) f [⟨Rect.unit (k0_off1 i 1#32) S1x1x2048.size inb1, c1⟩, ⟨Rect.unit (k0_off1 i 0#32) S1x1x2048.size inb0, c0⟩]) (ix3 0 r j) = a.view.read (Elt F) f (ix3 0 r j) := by
  rw [View.read_writes_cons_unit_of_not_mem (off' := ![0, 2 * (i 1).val + 1, 0]) a.view f _ _ _ _ (show k0_off1 i 1#32 = ![0, 2 * (i 1).val + 1, 0] from k0_off1_eq i ⟨1, by decide⟩) 1 (by show r.val < 2 * (i 1).val + 1 ∨ 2 * (i 1).val + 1 + 1 ≤ r.val; omega),
    View.read_writes_cons_unit_of_not_mem (off' := ![0, 2 * (i 1).val + 0, 0]) a.view f _ _ _ _ (show k0_off1 i 0#32 = ![0, 2 * (i 1).val + 0, 0] from k0_off1_eq i ⟨0, by decide⟩) 1 (by show r.val < 2 * (i 1).val + 0 ∨ 2 * (i 1).val + 0 + 1 ≤ r.val; omega)]
  rfl

theorem vrow_read0 (a : Memref sig .tc .vmem S1x8x64 .f32) (i : grid0.Coords) (f : BufTy.Contents (Elt F) a.view.ty) (inb1 : ∀ x, (k0_off2 i 1#32) x + S1x1x64.size x ≤ S1x8x64.size x) (inb0 : ∀ x, (k0_off2 i 0#32) x + S1x1x64.size x ≤ S1x8x64.size x) (c0 c1 : Vec F S1x1x64 .f32) (r : Fin 8) (j : Fin 64) (hr : r.val = 2 * (i 1).val) :
    a.view.read (Elt F) (a.view.writes (Elt F) f [⟨Rect.unit (k0_off2 i 1#32) S1x1x64.size inb1, c1⟩, ⟨Rect.unit (k0_off2 i 0#32) S1x1x64.size inb0, c0⟩]) (ix3 0 r j) = c0 (ix3 0 0 j) := by
  rw [View.read_writes_cons_unit_of_not_mem (off' := ![0, 2 * (i 1).val + 1, 0]) a.view f _ _ _ _ (show k0_off2 i 1#32 = ![0, 2 * (i 1).val + 1, 0] from k0_off2_eq i ⟨1, by decide⟩) 1 (Or.inl (by show r.val < 2 * (i 1).val + 1; omega))]
  exact View.read_writes_cons_unit_of_mem (off' := ![0, 2 * (i 1).val + 0, 0]) a.view f _ _ _ _ _ (show k0_off2 i 0#32 = ![0, 2 * (i 1).val + 0, 0] from k0_off2_eq i ⟨0, by decide⟩) (by intro x; fin_cases x <;> simp [ix3, hr])

theorem vrow_read1 (a : Memref sig .tc .vmem S1x8x64 .f32) (i : grid0.Coords) (f : BufTy.Contents (Elt F) a.view.ty) (inb1 : ∀ x, (k0_off2 i 1#32) x + S1x1x64.size x ≤ S1x8x64.size x) (inb0 : ∀ x, (k0_off2 i 0#32) x + S1x1x64.size x ≤ S1x8x64.size x) (c0 c1 : Vec F S1x1x64 .f32) (r : Fin 8) (j : Fin 64) (hr : r.val = 2 * (i 1).val + 1) :
    a.view.read (Elt F) (a.view.writes (Elt F) f [⟨Rect.unit (k0_off2 i 1#32) S1x1x64.size inb1, c1⟩, ⟨Rect.unit (k0_off2 i 0#32) S1x1x64.size inb0, c0⟩]) (ix3 0 r j) = c1 (ix3 0 0 j) :=
  View.read_writes_cons_unit_of_mem (off' := ![0, 2 * (i 1).val + 1, 0]) a.view f _ _ _ _ _ (show k0_off2 i 1#32 = ![0, 2 * (i 1).val + 1, 0] from k0_off2_eq i ⟨1, by decide⟩) (by intro x; fin_cases x <;> simp [ix3, hr])

theorem vrow_read_other (a : Memref sig .tc .vmem S1x8x64 .f32) (i : grid0.Coords) (f : BufTy.Contents (Elt F) a.view.ty) (inb1 : ∀ x, (k0_off2 i 1#32) x + S1x1x64.size x ≤ S1x8x64.size x) (inb0 : ∀ x, (k0_off2 i 0#32) x + S1x1x64.size x ≤ S1x8x64.size x) (c0 c1 : Vec F S1x1x64 .f32) (r : Fin 8) (j : Fin 64) (h0 : r.val ≠ 2 * (i 1).val) (h1 : r.val ≠ 2 * (i 1).val + 1) :
    a.view.read (Elt F) (a.view.writes (Elt F) f [⟨Rect.unit (k0_off2 i 1#32) S1x1x64.size inb1, c1⟩, ⟨Rect.unit (k0_off2 i 0#32) S1x1x64.size inb0, c0⟩]) (ix3 0 r j) = a.view.read (Elt F) f (ix3 0 r j) := by
  rw [View.read_writes_cons_unit_of_not_mem (off' := ![0, 2 * (i 1).val + 1, 0]) a.view f _ _ _ _ (show k0_off2 i 1#32 = ![0, 2 * (i 1).val + 1, 0] from k0_off2_eq i ⟨1, by decide⟩) 1 (by show r.val < 2 * (i 1).val + 1 ∨ 2 * (i 1).val + 1 + 1 ≤ r.val; omega),
    View.read_writes_cons_unit_of_not_mem (off' := ![0, 2 * (i 1).val + 0, 0]) a.view f _ _ _ _ (show k0_off2 i 0#32 = ![0, 2 * (i 1).val + 0, 0] from k0_off2_eq i ⟨0, by decide⟩) 1 (by show r.val < 2 * (i 1).val + 0 ∨ 2 * (i 1).val + 0 + 1 ≤ r.val; omega)]
  rfl

end Reads

/-- One entry of a head's attention output, from the block's tokens: queries `t0`, keys `t1`, values `t2`. -/
def head (t0 t1 t2 : Fin 2048 → Fin 128 → ℝ) (h : Fin 2) (d : Fin 64) (i : Fin 2048) : ℝ :=
  attn (fun j => (∑ x, tcd t1 h x j * tcd t0 h x i) * tsc t1 h j * (tsc t0 h i / 8)) (ccd t2 h d) (csc t2 h d)

/-- A product over both heads' channels of which one head's are zero is that of the other. -/
theorem sum_half (f : Fin 128 → ℝ) : ∑ x, f x = ∑ d : Fin 64, f (ch 0 d) + ∑ d : Fin 64, f (ch 1 d) := by
  rw [Fin.sum_univ_add (a := 64) (b := 64) f]
  congr 1 <;> refine Finset.sum_congr rfl fun d _ => congrArg f (Fin.ext ?_) <;> simp [ch]

theorem ch_split (x : Fin 128) : ∃ (h : Fin 2) (d : Fin 64), x = ch h d :=
  ⟨⟨x / 64, by omega⟩, ⟨x % 64, by omega⟩, Fin.ext (by show x.val = 64 * (x.val / 64) + x.val % 64; omega)⟩

/-- The query codes of head `h` among zeros. -/
def zq (t : Fin 2048 → Fin 128 → ℝ) (h : Fin 2) (x : Fin 128) (i : Fin 2048) : ℝ := if x.val / 64 = h.val then tcd t h ⟨x % 64, by omega⟩ i else 0

/-- The key codes of both heads. -/
def kk (t : Fin 2048 → Fin 128 → ℝ) (j : Fin 2048) (x : Fin 128) : ℝ := tcd t ⟨x / 64, by omega⟩ ⟨x % 64, by omega⟩ j

theorem zq_in (t : Fin 2048 → Fin 128 → ℝ) (h : Fin 2) (d : Fin 64) (i : Fin 2048) : zq t h (ch h d) i = tcd t h d i := by
  have e1 : (64 * h.val + d.val) / 64 = h.val := by omega
  have e2 : (64 * h.val + d.val) % 64 = d.val := by omega
  simp [zq, ch, e1, e2]

theorem zq_out (t : Fin 2048 → Fin 128 → ℝ) (h h' : Fin 2) (hh : h' ≠ h) (d : Fin 64) (i : Fin 2048) : zq t h (ch h' d) i = 0 := by
  have e1 : (64 * h'.val + d.val) / 64 = h'.val := by omega
  have : h'.val ≠ h.val := fun e => hh (Fin.ext e)
  simp [zq, ch, e1, this]

theorem kk_ch (t : Fin 2048 → Fin 128 → ℝ) (h : Fin 2) (d : Fin 64) (j : Fin 2048) : kk t j (ch h d) = tcd t h d j := by
  have e1 : (64 * h.val + d.val) / 64 = h.val := by omega
  have e2 : (64 * h.val + d.val) % 64 = d.val := by omega
  simp [kk, ch, e1, e2]

theorem dot0 (t0 t1 : Fin 2048 → Fin 128 → ℝ) (i j : Fin 2048) : ∑ x, kk t1 j x * zq t0 0 x i = ∑ d, tcd t1 0 d j * tcd t0 0 d i := by
  rw [sum_half]
  simp only [zq_in, kk_ch, zq_out t0 0 1 (by decide), mul_zero, Finset.sum_const_zero, add_zero]

theorem dot1 (t0 t1 : Fin 2048 → Fin 128 → ℝ) (i j : Fin 2048) : ∑ x, kk t1 j x * zq t0 1 x i = ∑ d, tcd t1 1 d j * tcd t0 1 d i := by
  rw [sum_half]
  simp only [zq_in, kk_ch, zq_out t0 1 0 (by decide), mul_zero, Finset.sum_const_zero, zero_add]

/-- What the output scratch holds after both heads' loops. -/
theorem ot_read (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2x64x2048 .fp8e4m3) (harg6 : arg6.IsWhole) (arg7 : Memref sig .tc .vmem S1x8x2048 .f32) (harg7 : arg7.IsWhole) (arg8 : Memref sig .tc .vmem S1x2x64x2048 .fp8e4m3) (harg8 : arg8.IsWhole) (arg9 : Memref sig .tc .vmem S1x8x2048 .f32) (harg9 : arg9.IsWhole) (arg10 : Memref sig .tc .vmem S1x2x64x2048 .fp8e4m3) (harg10 : arg10.IsWhole) (arg11 : Memref sig .tc .vmem S1x8x64 .f32) (harg11 : arg11.IsWhole) (arg12 : Memref sig .tc .vmem S2x128x2048 .fp8e4m3) (harg12 : arg12.IsWhole) (arg13 : Memref sig .tc .vmem S2048x128 .fp8e4m3) (harg13 : arg13.IsWhole) (arg14 : Memref sig .tc .vmem S2x2048x128 .f32) (harg14 : arg14.IsWhole) (arg15 : Memref sig .tc .vmem S2048x256 .f32) (harg15 : arg15.IsWhole) (arg16 : Memref sig .tc .vmem S128x2048 .f32) (harg16 : arg16.IsWhole) (arg1 : BitVec 32) (v198 : FVec Ideal S64x2048 .f32) (v287 : FVec Ideal S64x1 .f32) (v312 : BitVec 32) (v497 : FVec Ideal S64x2048 .f32) (v586 : FVec Ideal S64x1 .f32) (v598 : FVec Ideal S64x2048 .fp8e4m3) (v618 : BitVec 32) (X_arg7 : BufTy.Contents (Elt Ideal) arg7.view.ty) (X_arg10 : BufTy.Contents (Elt Ideal) arg10.view.ty) (X_arg12 : BufTy.Contents (Elt Ideal) arg12.view.ty) (X_arg13 : BufTy.Contents (Elt Ideal) arg13.view.ty) (X_arg14 : BufTy.Contents (Elt Ideal) arg14.view.ty) (G_arg15 : BufTy.Contents (Elt Ideal) arg15.view.ty) (G_arg16 : BufTy.Contents (Elt Ideal) arg16.view.ty) (v621 : BitVec 32) (H_arg15 : BufTy.Contents (Elt Ideal) arg15.view.ty) (H_arg16 : BufTy.Contents (Elt Ideal) arg16.view.ty)
    (t0 t1 t2 : Fin 2048 → Fin 128 → ℝ)
    (h7a : ∀ j (r : Fin 8), r.val = 2 * (i 1).val → arg7.view.read (Elt Ideal) X_arg7 (ix3 0 r j) = (tsc t0 0 j : EReal))
    (h7b : ∀ j (r : Fin 8), r.val = 2 * (i 1).val + 1 → arg7.view.read (Elt Ideal) X_arg7 (ix3 0 r j) = (tsc t0 1 j : EReal))
    (h10 : ∀ h d j, arg10.view.read (Elt Ideal) X_arg10 (ix4 0 h d j) = (ccd t2 h d j : EReal))
    (h12 : ∀ h x j, arg12.view.read (Elt Ideal) X_arg12 (ix3 h x j) = (zq t0 h x j : EReal))
    (h13 : ∀ j x, arg13.view.read (Elt Ideal) X_arg13 (ix2 j x) = (kk t1 j x : EReal))
    (h14 : ∀ h j l, arg14.view.read (Elt Ideal) X_arg14 (ix3 h j l) = (tsc t1 h j : EReal))
    (hv0 : ∀ d, v287 (ix2 d 0) = (csc t2 0 d : EReal)) (hv1 : ∀ d, v586 (ix2 d 0) = (csc t2 1 d : EReal))
    (f : BufTy.Contents (Elt Ideal) arg16.view.ty) (n1 n2 : ℕ) (hn1 : n1 = 8) (hn2 : n2 = 8) (h : Fin 2) (d : Fin 64) (j : Fin 2048) :
    arg16.view.read (Elt Ideal) (arg16.view.writes (Elt Ideal) f ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v621 X_arg7 X_arg10 X_arg12 X_arg13 X_arg14 H_arg15 H_arg16 n2).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v618 X_arg7 X_arg10 X_arg12 X_arg13 X_arg14 G_arg15 G_arg16 n1).2)) (ix2 (ch h d) j)
      = (head t0 t1 t2 h d j : EReal) := by
  subst hn1 hn2
  have hj : 256 * (j.val / 256) + j.val % 256 = j.val := by omega
  have key : ∀ (p : 256 * (j.val / 256) + j.val % 256 < 2048), (⟨256 * (j.val / 256) + j.val % 256, p⟩ : Fin 2048) = j := fun _ => Fin.ext hj
  rcases (show h = 0 ∨ h = 1 by omega) with rfl | rfl
  · rw [show ch 0 d = ⟨d.val, by omega⟩ from Fin.ext (by simp [ch])]
    rw [pb2_read_other 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v621 X_arg7 X_arg10 X_arg12 X_arg13 X_arg14 H_arg15 H_arg16 f _ 8 le_rfl d j]
    have e := pb1_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v618 X_arg7 X_arg10 X_arg12 X_arg13 X_arg14 G_arg15 G_arg16 f [] 8 le_rfl d j
    rw [List.append_nil, dif_pos (by omega)] at e
    refine (congrArg (fun x => arg16.view.read (Elt Ideal) _ (ix2 x j)) (Fin.ext (Nat.zero_add d.val).symm)).trans (e.trans ?_)
    rw [pl1_apply i arg7 arg10 arg12 arg13 arg14 X_arg7 X_arg10 X_arg12 X_arg13 X_arg14 v287 (zq t0 0) (kk t1) (tsc t1 0) (tsc t0 0) (ccd t2 0) (csc t2 0)
      h7a (fun _ => (sc_pos _).le) (h10 0) (h12 0) h13 (h14 0) hv0 _ (by show j.val / 256 < 8; omega) d _]
    simp only [key, dot0]; rfl
  · have e := pb2_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v621 X_arg7 X_arg10 X_arg12 X_arg13 X_arg14 H_arg15 H_arg16 f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v198 v287 v312 v497 v586 v598 v618 X_arg7 X_arg10 X_arg12 X_arg13 X_arg14 G_arg15 G_arg16 8).2 8 le_rfl d j
    rw [dif_pos (by omega)] at e
    refine (congrArg (fun x => arg16.view.read (Elt Ideal) _ (ix2 x j)) (Fin.ext (by simp [ch]))).trans (e.trans ?_)
    rw [pl2_apply i arg7 arg10 arg12 arg13 arg14 X_arg7 X_arg10 X_arg12 X_arg13 X_arg14 v586 (zq t0 1) (kk t1) (tsc t1 1) (tsc t0 1) (ccd t2 1) (csc t2 1)
      h7b (fun _ => (sc_pos _).le) (h10 1) (h12 1) h13 (h14 1) hv1 _ (by show j.val / 256 < 8; omega) d _]
    simp only [key, dot1]; rfl

/-- The output block is the scratch with its tokens first. -/
theorem out_apply (a : Memref sig .tc .vmem S128x2048 .f32) (f : BufTy.Contents (Elt Ideal) a.view.ty) (inb : ∀ x, (![0, 0] : Fin 2 → ℕ) x + S128x2048.size x ≤ S128x2048.size x)
    (i : Fin 2048) (c : Fin 128) :
    k0_pay153 (F := Ideal) (a.view.readAt (Elt Ideal) (Rect.unit (s := S128x2048) ![0, 0] S128x2048.size inb).toLoadRect f) (ix3 0 i c) = a.view.read (Elt Ideal) f (ix2 c i) := by
  rw [View.readAt_full]
  pointwise [k0_pay153]

end Cert.KernelIdeal.Store

end
-- ==== Proof.Body.lean ====
/- One run of the kernel's body over the reals: what each output block holds after it, from one block of each operand. -/
module

public import proofs.«01_k».proof.Proof.Base
public import proofs.«01_k».proof.Proof.Store
public import Idealize.ShloMosaic.Lib.Claim

@[expose] public section

set_option maxRecDepth 16384

noncomputable section

namespace Cert.KernelIdeal.Val

open Cert.KernelIdeal Cert.KernelIdeal.Gen Cert.KernelIdeal.Run Cert.KernelIdeal.Quant Cert.KernelIdeal.Store Cert.KernelIdeal.Loop Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The output block holds the two heads' attention. -/
def POut (t0 t1 t2 : Fin 2048 → Fin 128 → ℝ) (X : Vec Ideal S1x2048x128 .bf16) : Prop :=
  ∀ (h : Fin 2) (d : Fin 64) (i : Fin 2048), X (ix3 0 i (ch h d)) = (head t0 t1 t2 h d i : EReal)

/-- A block of codes holds `g`. -/
def PCodes (g : Fin 2 → Fin 64 → Fin 2048 → ℝ) (X : Vec Ideal S1x2x64x2048 .fp8e4m3) : Prop :=
  ∀ h d i, X (ix4 0 h d i) = (g h d i : EReal)

/-- The two rows of scales of pair `p` hold `g`, and every other row is as in `d`. -/
def PRow (p : ℕ) (g : Fin 2 → Fin 2048 → ℝ) (d X : Vec Ideal S1x8x2048 .f32) : Prop :=
  ∀ (r : Fin 8) (j : Fin 2048), X (ix3 0 r j) = if r.val = 2 * p then (g 0 j : EReal) else if r.val = 2 * p + 1 then (g 1 j : EReal) else d (ix3 0 r j)

/-- The same of the values' scales. -/
def PVRow (p : ℕ) (g : Fin 2 → Fin 64 → ℝ) (d X : Vec Ideal S1x8x64 .f32) : Prop :=
  ∀ (r : Fin 8) (j : Fin 64), X (ix3 0 r j) = if r.val = 2 * p then (g 0 j : EReal) else if r.val = 2 * p + 1 then (g 1 j : EReal) else d (ix3 0 r j)

theorem codes_post (a : Memref sig .tc .vmem S1x2x64x2048 .fp8e4m3) (f : BufTy.Contents (Elt Ideal) a.view.ty) (c0 c1 : Vec Ideal S1x1x64x2048 .fp8e4m3) (g : Fin 2 → Fin 64 → Fin 2048 → ℝ)
    (h0 : ∀ d i, c0 (ix4 0 0 d i) = (g 0 d i : EReal)) (h1 : ∀ d i, c1 (ix4 0 0 d i) = (g 1 d i : EReal)) :
    PCodes g (a.view.read (Elt Ideal) (a.view.writes (Elt Ideal) f [⟨Rect.unit ![0, 1, 0, 0] S1x1x64x2048.size inb_S1x2x64x2048_S1x1x64x2048_0_1_0_0, c1⟩, ⟨Rect.unit ![0, 0, 0, 0] S1x1x64x2048.size inb_S1x2x64x2048_S1x1x64x2048_0_0_0_0, c0⟩])) := by
  intro h d i
  rcases (show h = 0 ∨ h = 1 by omega) with rfl | rfl
  · exact (codes_read0 a f c0 c1 d i).trans (h0 d i)
  · exact (codes_read1 a f c0 c1 d i).trans (h1 d i)

theorem row_post (a : Memref sig .tc .vmem S1x8x2048 .f32) (i : grid0.Coords) (f : BufTy.Contents (Elt Ideal) a.view.ty) (inb1 : ∀ x, (k0_off1 i 1#32) x + S1x1x2048.size x ≤ S1x8x2048.size x) (inb0 : ∀ x, (k0_off1 i 0#32) x + S1x1x2048.size x ≤ S1x8x2048.size x)
    (c0 c1 : Vec Ideal S1x1x2048 .f32) (g : Fin 2 → Fin 2048 → ℝ) (h0 : ∀ j, c0 (ix3 0 0 j) = (g 0 j : EReal)) (h1 : ∀ j, c1 (ix3 0 0 j) = (g 1 j : EReal)) :
    PRow (i 1).val g (a.view.read (Elt Ideal) f) (a.view.read (Elt Ideal) (a.view.writes (Elt Ideal) f [⟨Rect.unit (k0_off1 i 1#32) S1x1x2048.size inb1, c1⟩, ⟨Rect.unit (k0_off1 i 0#32) S1x1x2048.size inb0, c0⟩])) := by
  intro r j
  by_cases e0 : r.val = 2 * (i 1).val
  · rw [if_pos e0]; exact (row_read0 a i f inb1 inb0 c0 c1 r j (by omega)).trans (h0 j)
  · rw [if_neg e0]
    by_cases e1 : r.val = 2 * (i 1).val + 1
    · rw [if_pos e1]; exact (row_read1 a i f inb1 inb0 c0 c1 r j (by omega)).trans (h1 j)
    · rw [if_neg e1]; exact row_read_other a i f inb1 inb0 c0 c1 r j e0 e1

theorem vrow_post (a : Memref sig .tc .vmem S1x8x64 .f32) (i : grid0.Coords) (f : BufTy.Contents (Elt Ideal) a.view.ty) (inb1 : ∀ x, (k0_off2 i 1#32) x + S1x1x64.size x ≤ S1x8x64.size x) (inb0 : ∀ x, (k0_off2 i 0#32) x + S1x1x64.size x ≤ S1x8x64.size x)
    (c0 c1 : Vec Ideal S1x1x64 .f32) (g : Fin 2 → Fin 64 → ℝ) (h0 : ∀ j, c0 (ix3 0 0 j) = (g 0 j : EReal)) (h1 : ∀ j, c1 (ix3 0 0 j) = (g 1 j : EReal)) :
    PVRow (i 1).val g (a.view.read (Elt Ideal) f) (a.view.read (Elt Ideal) (a.view.writes (Elt Ideal) f [⟨Rect.unit (k0_off2 i 1#32) S1x1x64.size inb1, c1⟩, ⟨Rect.unit (k0_off2 i 0#32) S1x1x64.size inb0, c0⟩])) := by
  intro r j
  by_cases e0 : r.val = 2 * (i 1).val
  · rw [if_pos e0]; exact (vrow_read0 a i f inb1 inb0 c0 c1 r j (by omega)).trans (h0 j)
  · rw [if_neg e0]
    by_cases e1 : r.val = 2 * (i 1).val + 1
    · rw [if_pos e1]; exact (vrow_read1 a i f inb1 inb0 c0 c1 r j (by omega)).trans (h1 j)
    · rw [if_neg e1]; exact vrow_read_other a i f inb1 inb0 c0 c1 r j e0 e1

theorem qz_all (a : Memref sig .tc .vmem S2x128x2048 .fp8e4m3) (f : BufTy.Contents (Elt Ideal) a.view.ty) (y : Vec Ideal S1x2048x128 .bf16) (t : Fin 2048 → Fin 128 → ℝ)
    (hy : ∀ i c, y (ix3 0 i c) = (t i c : EReal)) (ok : ∀ i c, Ok |t i c|) (h : Fin 2) (x : Fin 128) (j : Fin 2048) :
    a.view.read (Elt Ideal) (a.view.writes (Elt Ideal) f [⟨Rect.unit ![1, 0, 0] S1x128x2048.size inb_S2x128x2048_S1x128x2048_1_0_0, q1z y⟩, ⟨Rect.unit ![0, 0, 0] S1x128x2048.size inb_S2x128x2048_S1x128x2048_0_0_0, q0z y⟩]) (ix3 h x j)
      = (zq t h x j : EReal) := by
  obtain ⟨h', d, rfl⟩ := ch_split x
  rcases (show h = 0 ∨ h = 1 by omega) with rfl | rfl
  · refine (qz_read0 a f (q0z y) (q1z y) _ j).trans ?_
    rcases (show h' = 0 ∨ h' = 1 by omega) with rfl | rfl
    · rw [zq_in]; exact q0z_in y t hy ok d j
    · rw [zq_out t 0 1 (by decide)]; exact q0z_out y d j
  · refine (qz_read1 a f (q0z y) (q1z y) _ j).trans ?_
    rcases (show h' = 0 ∨ h' = 1 by omega) with rfl | rfl
    · rw [zq_out t 1 0 (by decide)]; exact q1z_out y d j
    · rw [zq_in]; exact q1z_in y t hy ok d j

theorem kb_all (a : Memref sig .tc .vmem S2x2048x128 .f32) (f : BufTy.Contents (Elt Ideal) a.view.ty) (y : Vec Ideal S1x2048x128 .bf16) (t : Fin 2048 → Fin 128 → ℝ)
    (hy : ∀ i c, y (ix3 0 i c) = (t i c : EReal)) (ok : ∀ i c, Ok |t i c|) (h : Fin 2) (j : Fin 2048) (l : Fin 128) :
    a.view.read (Elt Ideal) (a.view.writes (Elt Ideal) f [⟨Rect.unit ![1, 0, 0] S1x2048x128.size inb_S2x2048x128_S1x2048x128_1_0_0, k1b y⟩, ⟨Rect.unit ![0, 0, 0] S1x2048x128.size inb_S2x2048x128_S1x2048x128_0_0_0, k0b y⟩]) (ix3 h j l)
      = (tsc t h j : EReal) := by
  rcases (show h = 0 ∨ h = 1 by omega) with rfl | rfl
  · exact (kb_read0 a f (k0b y) (k1b y) j l).trans (k0b_apply y t hy ok j l)
  · exact (kb_read1 a f (k0b y) (k1b y) j l).trans (k1b_apply y t hy ok j l)

theorem kn_all (a : Memref sig .tc .vmem S2048x128 .fp8e4m3) (f : BufTy.Contents (Elt Ideal) a.view.ty) (y : Vec Ideal S1x2048x128 .bf16) (t : Fin 2048 → Fin 128 → ℝ)
    (hy : ∀ i c, y (ix3 0 i c) = (t i c : EReal)) (ok : ∀ i c, Ok |t i c|) (j : Fin 2048) (x : Fin 128) :
    a.view.read (Elt Ideal) (a.view.writes (Elt Ideal) f [⟨Rect.unit ![0, 0] S2048x128.size inb_S2048x128_S2048x128_0_0, kn y⟩]) (ix2 j x)
      = (kk t j x : EReal) := by
  refine (congrFun (View.read_writes_full a.view f inb_S2048x128_S2048x128_0_0 (kn y) []) (ix2 j x)).trans ?_
  obtain ⟨h, d, rfl⟩ := ch_split x
  rw [kk_ch]
  rcases (show h = 0 ∨ h = 1 by omega) with rfl | rfl
  · exact kn_0 y t hy ok j d
  · exact kn_1 y t hy ok j d

theorem row_of {p : ℕ} {g : Fin 2 → Fin 2048 → ℝ} {d X : Vec Ideal S1x8x2048 .f32} (H : PRow p g d X) (j : Fin 2048) (r : Fin 8) (hr : r.val = 2 * p) : X (ix3 0 r j) = (g 0 j : EReal) := by
  rw [H r j, if_pos hr]

theorem row_of' {p : ℕ} {g : Fin 2 → Fin 2048 → ℝ} {d X : Vec Ideal S1x8x2048 .f32} (H : PRow p g d X) (j : Fin 2048) (r : Fin 8) (hr : r.val = 2 * p + 1) : X (ix3 0 r j) = (g 1 j : EReal) := by
  rw [H r j, if_neg (by omega), if_pos hr]

-- (the run's proof term is large: checking it walks past the default budget)
set_option maxHeartbeats 4000000 in
/-- The body's run: on whole staging memrefs, the inputs' holding real numbers that are zero or not too small, each output's block
    is left as `POut`, `PCodes`, `PRow` and `PVRow` say. -/
theorem bodyRun (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2x64x2048 .fp8e4m3) (harg6 : arg6.IsWhole) (arg7 : Memref sig .tc .vmem S1x8x2048 .f32) (harg7 : arg7.IsWhole) (arg8 : Memref sig .tc .vmem S1x2x64x2048 .fp8e4m3) (harg8 : arg8.IsWhole) (arg9 : Memref sig .tc .vmem S1x8x2048 .f32) (harg9 : arg9.IsWhole) (arg10 : Memref sig .tc .vmem S1x2x64x2048 .fp8e4m3) (harg10 : arg10.IsWhole) (arg11 : Memref sig .tc .vmem S1x8x64 .f32) (harg11 : arg11.IsWhole) (arg12 : Memref sig .tc .vmem S2x128x2048 .fp8e4m3) (harg12 : arg12.IsWhole) (arg13 : Memref sig .tc .vmem S2048x128 .fp8e4m3) (harg13 : arg13.IsWhole) (arg14 : Memref sig .tc .vmem S2x2048x128 .f32) (harg14 : arg14.IsWhole) (arg15 : Memref sig .tc .vmem S2048x256 .f32) (harg15 : arg15.IsWhole) (arg16 : Memref sig .tc .vmem S128x2048 .f32) (harg16 : arg16.IsWhole)
    (x0 x1 x2 : Vec Ideal S1x2048x128 .bf16) (t0 t1 t2 : Fin 2048 → Fin 128 → ℝ)
    (hx0 : ∀ i c, x0 (ix3 0 i c) = (t0 i c : EReal)) (ok0 : ∀ i c, Ok |t0 i c|)
    (hx1 : ∀ i c, x1 (ix3 0 i c) = (t1 i c : EReal)) (ok1 : ∀ i c, Ok |t1 i c|)
    (hx2 : ∀ i c, x2 (ix3 0 i c) = (t2 i c : EReal)) (ok2 : ∀ i c, Ok |t2 i c|)
    (d7 d9 : Vec Ideal S1x8x2048 .f32) (d11 : Vec Ideal S1x8x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare d7 ∗ (∃ d, owns (c : Thread nD τ) arg8 fullShare d) ∗ owns (c : Thread nD τ) arg9 fullShare d9 ∗ (∃ d, owns (c : Thread nD τ) arg10 fullShare d) ∗ owns (c : Thread nD τ) arg11 fullShare d11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ X, iprop(⌜POut t0 t1 t2 X⌝ ∗ owns (c : Thread nD τ) arg5 fullShare X)) ∗ (∃ X, iprop(⌜PCodes (tcd t0) X⌝ ∗ owns (c : Thread nD τ) arg6 fullShare X)) ∗ (∃ X, iprop(⌜PRow (i 1).val (tsc t0) d7 X⌝ ∗ owns (c : Thread nD τ) arg7 fullShare X)) ∗ (∃ X, iprop(⌜PCodes (tcd t1) X⌝ ∗ owns (c : Thread nD τ) arg8 fullShare X)) ∗ (∃ X, iprop(⌜PRow (i 1).val (tsc t1) d9 X⌝ ∗ owns (c : Thread nD τ) arg9 fullShare X)) ∗ (∃ X, iprop(⌜PCodes (ccd t2) X⌝ ∗ owns (c : Thread nD τ) arg10 fullShare X)) ∗ (∃ X, iprop(⌜PVRow (i 1).val (csc t2) d11 X⌝ ∗ owns (c : Thread nD τ) arg11 fullShare X)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := Ideal)) Variants.none c none) E (cc0_fp8_mha i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_fp8_mha_eq_skeleton]; unfold cc0_fp8_mha_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d6, %f6, -, H6⟩, ⟨%f7, %hf7, H7⟩, ⟨%d8, %f8, -, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    subst hf5 hf7 hf9
    have hy0 : ∀ i c, View.readAt (Elt Ideal) arg2.view (Rect.unit ![0, 0, 0] S1x2048x128.size inb_S1x2048x128_S1x2048x128_0_0_0).toLoadRect (harg2.unread x0) (ix3 0 i c) = (t0 i c : EReal) :=
      fun i c => by rw [View.readAt_full, harg2.read_unread]; exact hx0 i c
    have hy1 : ∀ i c, View.readAt (Elt Ideal) arg3.view (Rect.unit ![0, 0, 0] S1x2048x128.size inb_S1x2048x128_S1x2048x128_0_0_0).toLoadRect (harg3.unread x1) (ix3 0 i c) = (t1 i c : EReal) :=
      fun i c => by rw [View.readAt_full, harg3.read_unread]; exact hx1 i c
    have hy2 : ∀ i c, View.readAt (Elt Ideal) arg4.view (Rect.unit ![0, 0, 0] S1x2048x128.size inb_S1x2048x128_S1x2048x128_0_0_0).toLoadRect (harg4.unread x2) (ix3 0 i c) = (t2 i c : EReal) :=
      fun i c => by rw [View.readAt_full, harg4.read_unread]; exact hx2 i c
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap
      · iexists _; isplitr; swap; · iexact H3
        ipureintro; rfl
      · ipureintro
        intro h d j
        refine (congrFun (View.read_writes_full arg5.view _ _ _ _) _).trans ?_
        refine (out_apply arg16 _ _ _ _).trans ?_
        exact ot_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ t0 t1 t2
          (fun j r hr => row_of (row_post arg7 i _ _ _ (q0scale _) (q1scale _) (tsc t0) (q0scale_apply _ t0 hy0 ok0) (q1scale_apply _ t0 hy0 ok0)) j r hr)
          (fun j r hr => row_of' (row_post arg7 i _ _ _ (q0scale _) (q1scale _) (tsc t0) (q0scale_apply _ t0 hy0 ok0) (q1scale_apply _ t0 hy0 ok0)) j r hr)
          (codes_post arg10 _ (v0code _) (v1code _) (ccd t2) (v0code_apply _ t2 hy2 ok2) (v1code_apply _ t2 hy2 ok2))
          (qz_all arg12 _ _ t0 hy0 ok0) (kn_all arg13 _ _ t1 hy1 ok1) (kb_all arg14 _ _ t1 hy1 ok1)
          (v0s_apply _ t2 hy2 ok2) (v1s_apply _ t2 hy2 ok2) _ _ _ trips1_eq trips2_eq h d j
    isplitl [H4]
    · iexists _; isplitr; swap
      · iexists _; isplitr; swap; · iexact H4
        ipureintro; rfl
      · ipureintro
        exact codes_post arg6 _ (q0code _) (q1code _) (tcd t0) (q0code_apply _ t0 hy0 ok0) (q1code_apply _ t0 hy0 ok0)
    isplitl [H5]
    · iexists _; isplitr; swap
      · iexists _; isplitr; swap; · iexact H5
        ipureintro; rfl
      · ipureintro
        exact row_post arg7 i _ _ _ (q0scale _) (q1scale _) (tsc t0) (q0scale_apply _ t0 hy0 ok0) (q1scale_apply _ t0 hy0 ok0)
    isplitl [H6]
    · iexists _; isplitr; swap
      · iexists _; isplitr; swap; · iexact H6
        ipureintro; rfl
      · ipureintro
        exact codes_post arg8 _ (k0code _) (k1code _) (tcd t1) (k0code_apply _ t1 hy1 ok1) (k1code_apply _ t1 hy1 ok1)
    isplitl [H7]
    · iexists _; isplitr; swap
      · iexists _; isplitr; swap; · iexact H7
        ipureintro; rfl
      · ipureintro
        exact row_post arg9 i _ _ _ (k0scale _) (k1scale _) (tsc t1) (k0scale_apply _ t1 hy1 ok1) (k1scale_apply _ t1 hy1 ok1)
    isplitl [H8]
    · iexists _; isplitr; swap
      · iexists _; isplitr; swap; · iexact H8
        ipureintro; rfl
      · ipureintro
        exact codes_post arg10 _ (v0code _) (v1code _) (ccd t2) (v0code_apply _ t2 hy2 ok2) (v1code_apply _ t2 hy2 ok2)
    isplitl [H9]
    · iexists _; isplitr; swap
      · iexists _; isplitr; swap; · iexact H9
        ipureintro; rfl
      · ipureintro
        exact vrow_post arg11 i _ _ _ (v0row _) (v1row _) (csc t2) (v0row_apply _ t2 hy2 ok2) (v1row_apply _ t2 hy2 ok2)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Val

end
-- ==== Proof.Result.lean ====
/- The seven results as functions of three real arrays: per batch entry and head, the codes, the scales and the attention output. -/
module

public import proofs.«01_k».proof.Proof.Spec

@[expose] public section

noncomputable section

namespace Cert.Spec

/-- A real array of batch entries, tokens and features. -/
abbrev Arr := Fin 9 → Fin 2048 → Fin 512 → ℝ

/-- Head `H` of batch entry `b`: tokens by channels. -/
def hd (A : Arr) (b : Fin 9) (H : Fin 8) (i : Fin 2048) (d : Fin 64) : ℝ := A b i ⟨64 * H.val + d.val, by omega⟩

/-- One token's scale, from its greatest magnitude over the head's channels. -/
def ts (A : Arr) (b : Fin 9) (H : Fin 8) (i : Fin 2048) : ℝ := sc (gmax fun d => |hd A b H i d|)

/-- One channel's scale, from its greatest magnitude over the tokens. -/
def cs (A : Arr) (b : Fin 9) (H : Fin 8) (d : Fin 64) : ℝ := sc (gmax fun i => |hd A b H i d|)

/-- The codes of queries and keys. -/
def tc (A : Arr) (b : Fin 9) (H : Fin 8) (d : Fin 64) (i : Fin 2048) : ℝ := code (hd A b H i d) (ts A b H i)

/-- The codes of values. -/
def cc (A : Arr) (b : Fin 9) (H : Fin 8) (d : Fin 64) (i : Fin 2048) : ℝ := code (hd A b H i d) (cs A b H d)

/-- The attention output. -/
def att (A0 A1 A2 : Arr) (b : Fin 9) (H : Fin 8) (d : Fin 64) (i : Fin 2048) : ℝ :=
  attn (fun j => (∑ x, tc A1 b H x j * tc A0 b H x i) * ts A1 b H j * (ts A0 b H i / 8)) (cc A2 b H d) (cs A2 b H d)

end Cert.Spec

end
-- ==== Proof.KRun.lean ====
/- The run of the idealized kernel over the reals: what its seven result arrays hold at the end. -/
module

public import proofs.«01_k».proof.Proof.Body
public import proofs.«01_k».proof.Proof.Result
public import Idealize.ShloMosaic.Lib.Pipeline.DatRel
public import Idealize.ShloMosaic.Lib.Pipeline.ArrRel

@[expose] public section

set_option maxRecDepth 16384

noncomputable section

namespace Cert.KernelIdeal.Val

open Cert.KernelIdeal Cert.KernelIdeal.Gen Cert.KernelIdeal.Run Cert.KernelIdeal.Quant Cert.KernelIdeal.Store Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

/-- The real numbers an array holds. -/
def real (x : Vec Ideal S9x2048x512 .bf16) : Arr := fun b i f => (x (ix3 b i f)).toReal

/-- An array of real numbers, each zero or of a magnitude that is not too small. -/
def Good (x : Vec Ideal S9x2048x512 .bf16) : Prop := ∀ b i f, ∃ r : ℝ, x (ix3 b i f) = (r : EReal) ∧ Ok |r|

theorem Good.eq {x : Vec Ideal S9x2048x512 .bf16} (h : Good x) (b i f) : x (ix3 b i f) = (real x b i f : EReal) := by
  obtain ⟨r, hr, -⟩ := h b i f
  unfold real; rw [hr, EReal.toReal_coe]

theorem Good.ok {x : Vec Ideal S9x2048x512 .bf16} (h : Good x) (b i f) : Ok |real x b i f| := by
  obtain ⟨r, hr, ok⟩ := h b i f
  unfold real; rw [hr, EReal.toReal_coe]; exact ok

theorem coords0 : ∀ t : Fin cfg0.N, (grid0.coords t 0).val = t.val / 4 := (by decide +kernel : ∀ t : Fin grid0.N, (grid0.coords t 0).val = t.val / 4)
theorem coords1 : ∀ t : Fin cfg0.N, (grid0.coords t 1).val = t.val % 4 := (by decide +kernel : ∀ t : Fin grid0.N, (grid0.coords t 1).val = t.val % 4)

theorem lt36 (t : Fin cfg0.N) : t.val < 36 := t.isLt

/-- The batch entry of a grid point. -/
def pb (t : Fin cfg0.N) : Fin 9 := ⟨t.val / 4, by have := lt36 t; omega⟩

/-- The block of an array at a grid point. -/
def bk (A : Arr) (t : Fin cfg0.N) : Fin 2048 → Fin 128 → ℝ := fun i c => A (pb t) i ⟨128 * (t.val % 4) + c.val, by omega⟩

/-- The head in the grid point's pair. -/
def hh (t : Fin cfg0.N) (h : Fin 2) : Fin 8 := ⟨2 * (t.val % 4) + h.val, by omega⟩

theorem bk_ch (A : Arr) (t : Fin cfg0.N) (i : Fin 2048) (h : Fin 2) (d : Fin 64) : bk A t i (ch h d) = hd A (pb t) (hh t h) i d :=
  congrArg (A (pb t) i) (Fin.ext (by simp only [ch, hh]; omega))

theorem tsc_bk (A : Arr) (t : Fin cfg0.N) (h : Fin 2) (i : Fin 2048) : tsc (bk A t) h i = ts A (pb t) (hh t h) i := by
  unfold tsc ts; simp only [bk_ch]
theorem csc_bk (A : Arr) (t : Fin cfg0.N) (h : Fin 2) (d : Fin 64) : csc (bk A t) h d = cs A (pb t) (hh t h) d := by
  unfold csc cs; simp only [bk_ch]
theorem tcd_bk (A : Arr) (t : Fin cfg0.N) (h : Fin 2) (d : Fin 64) (i : Fin 2048) : tcd (bk A t) h d i = tc A (pb t) (hh t h) d i := by
  unfold tcd tc; rw [bk_ch, tsc_bk]
theorem ccd_bk (A : Arr) (t : Fin cfg0.N) (h : Fin 2) (d : Fin 64) (i : Fin 2048) : ccd (bk A t) h d i = cc A (pb t) (hh t h) d i := by
  unfold ccd cc; rw [bk_ch, csc_bk]
theorem head_bk (A0 A1 A2 : Arr) (t : Fin cfg0.N) (h : Fin 2) (d : Fin 64) (i : Fin 2048) :
    head (bk A0 t) (bk A1 t) (bk A2 t) h d i = att A0 A1 A2 (pb t) (hh t h) d i := by
  unfold head att
  simp only [tcd_bk, tsc_bk, csc_bk]
  rw [show ccd (bk A2 t) h d = cc A2 (pb t) (hh t h) d from funext fun i => ccd_bk A2 t h d i]

variable (m : (ℓ : Loc nD τ sig) → Buf (Elt Ideal) ℓ) (ρ : Dev nD → PrngReg)

/-- The three arguments as real arrays. -/
def a0 (c : Dev nD) : Arr := real (m ((c.tc : Thread nD τ).loc main_arg0))
def a1 (c : Dev nD) : Arr := real (m ((c.tc : Thread nD τ).loc main_arg1))
def a2 (c : Dev nD) : Arr := real (m ((c.tc : Thread nD τ).loc main_arg2))

/-- Rows below `k` of a block of token scales hold `g`. -/
def Rows (k : ℕ) (g : Fin 8 → Fin 2048 → ℝ) (X : Vec Ideal S1x8x2048 .f32) : Prop := ∀ (r : Fin 8) (j : Fin 2048), r.val < k → X (ix3 0 r j) = (g r j : EReal)
def VRows (k : ℕ) (g : Fin 8 → Fin 64 → ℝ) (X : Vec Ideal S1x8x64 .f32) : Prop := ∀ (r : Fin 8) (j : Fin 64), r.val < k → X (ix3 0 r j) = (g r j : EReal)

/-- The windows of which the run names a relation: the outputs. -/
def outs : Fin 10 → Bool := fun w => w.val == 3 || w.val == 4 || w.val == 5 || w.val == 6 || w.val == 7 || w.val == 8 || w.val == 9

/-- What each output's block holds after a grid point. -/
def Rl (c : Dev nD) (w : Fin cfg0.W) (t : Fin cfg0.N) : ((cfg0.win w).block.Idx → Elt Ideal (cfg0.win w).elt) → Prop := match w with
  | ⟨0, _⟩ => fun _ => True
  | ⟨1, _⟩ => fun _ => True
  | ⟨2, _⟩ => fun _ => True
  | ⟨3, _⟩ => fun X => POut (bk (a0 m c) t) (bk (a1 m c) t) (bk (a2 m c) t) X
  | ⟨4, _⟩ => fun X => PCodes (tcd (bk (a0 m c) t)) X
  | ⟨5, _⟩ => fun X => Rows (2 * (t.val % 4) + 2) (ts (a0 m c) (pb t)) X
  | ⟨6, _⟩ => fun X => PCodes (tcd (bk (a1 m c) t)) X
  | ⟨7, _⟩ => fun X => Rows (2 * (t.val % 4) + 2) (ts (a1 m c) (pb t)) X
  | ⟨8, _⟩ => fun X => PCodes (ccd (bk (a2 m c) t)) X
  | ⟨9, _⟩ => fun X => VRows (2 * (t.val % 4) + 2) (cs (a2 m c) (pb t)) X

/-- The proof data of the one pipeline. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The relational data: the outputs' blocks as `Rl` says. -/
abbrev rdat (c : Dev nD) : RDat τ (Elt Ideal) Unit ℕ (UR sig nD τ) ℕ cfg0 c := (dats m 0 c).toRRel outs (Rl m c)

theorem idx0 : ∀ t : Fin cfg0.N, (cfg0.win 0).index t = ![t.val / 4, 0, t.val % 4] := (by decide +kernel : ∀ t : Fin grid0.N, win0_0.index t = ![t.val / 4, 0, t.val % 4])
theorem idx1 : ∀ t : Fin cfg0.N, (cfg0.win 1).index t = ![t.val / 4, 0, t.val % 4] := (by decide +kernel : ∀ t : Fin grid0.N, win0_1.index t = ![t.val / 4, 0, t.val % 4])
theorem idx2 : ∀ t : Fin cfg0.N, (cfg0.win 2).index t = ![t.val / 4, 0, t.val % 4] := (by decide +kernel : ∀ t : Fin grid0.N, win0_2.index t = ![t.val / 4, 0, t.val % 4])
theorem idx3 : ∀ t : Fin cfg0.N, (cfg0.win 3).index t = ![t.val / 4, 0, t.val % 4] := (by decide +kernel : ∀ t : Fin grid0.N, win0_3.index t = ![t.val / 4, 0, t.val % 4])
theorem idx4 : ∀ t : Fin cfg0.N, (cfg0.win 4).index t = ![t.val / 4, t.val % 4, 0, 0] := (by decide +kernel : ∀ t : Fin grid0.N, win0_4.index t = ![t.val / 4, t.val % 4, 0, 0])
theorem idx5 : ∀ t : Fin cfg0.N, (cfg0.win 5).index t = ![t.val / 4, 0, 0] := (by decide +kernel : ∀ t : Fin grid0.N, win0_5.index t = ![t.val / 4, 0, 0])
theorem idx6 : ∀ t : Fin cfg0.N, (cfg0.win 6).index t = ![t.val / 4, t.val % 4, 0, 0] := (by decide +kernel : ∀ t : Fin grid0.N, win0_6.index t = ![t.val / 4, t.val % 4, 0, 0])
theorem idx7 : ∀ t : Fin cfg0.N, (cfg0.win 7).index t = ![t.val / 4, 0, 0] := (by decide +kernel : ∀ t : Fin grid0.N, win0_7.index t = ![t.val / 4, 0, 0])
theorem idx8 : ∀ t : Fin cfg0.N, (cfg0.win 8).index t = ![t.val / 4, t.val % 4, 0, 0] := (by decide +kernel : ∀ t : Fin grid0.N, win0_8.index t = ![t.val / 4, t.val % 4, 0, 0])
theorem idx9 : ∀ t : Fin cfg0.N, (cfg0.win 9).index t = ![t.val / 4, 0, 0] := (by decide +kernel : ∀ t : Fin grid0.N, win0_9.index t = ![t.val / 4, 0, 0])

/-- Input 0's block at a grid point. -/
theorem iblk0 (c : Dev nD) (hg : Good (m ((c.tc : Thread nD τ).loc main_arg0))) (t : Fin cfg0.N) (i : Fin 2048) (f : Fin 128) :
    (iblk m c 0 t : Vec Ideal S1x2048x128 .bf16) (ix3 0 i f) = (bk (a0 m c) t i f : EReal) := by
  refine Eq.trans ?_ (hg.eq (pb t) i ⟨128 * (t.val % 4) + f.val, by omega⟩)
  blk_ext [iblk, V, idx0 t, pb]

/-- Input 1's block at a grid point. -/
theorem iblk1 (c : Dev nD) (hg : Good (m ((c.tc : Thread nD τ).loc main_arg1))) (t : Fin cfg0.N) (i : Fin 2048) (f : Fin 128) :
    (iblk m c 1 t : Vec Ideal S1x2048x128 .bf16) (ix3 0 i f) = (bk (a1 m c) t i f : EReal) := by
  refine Eq.trans ?_ (hg.eq (pb t) i ⟨128 * (t.val % 4) + f.val, by omega⟩)
  blk_ext [iblk, V, idx1 t, pb]

/-- Input 2's block at a grid point. -/
theorem iblk2 (c : Dev nD) (hg : Good (m ((c.tc : Thread nD τ).loc main_arg2))) (t : Fin cfg0.N) (i : Fin 2048) (f : Fin 128) :
    (iblk m c 2 t : Vec Ideal S1x2048x128 .bf16) (ix3 0 i f) = (bk (a2 m c) t i f : EReal) := by
  refine Eq.trans ?_ (hg.eq (pb t) i ⟨128 * (t.val % 4) + f.val, by omega⟩)
  blk_ext [iblk, V, idx2 t, pb]

/-- What the body finds in a block of token scales. -/
theorem rows_found (c : Dev nD) (t : Fin cfg0.N) (Y : Vec Ideal S1x8x2048 .f32) (h : (rdat m c).Finds 5 t Y) :
    Rows (2 * (t.val % 4)) (ts (a0 m c) (pb t)) Y := by
  intro r j hr
  have ht : t.val ≠ 0 := by omega
  rw [(rdat m c).finds_of_pos rfl ht] at h
  rcases h with h | h
  · have := (flush0_5 _).mp h; simp only at this; omega
  · have h' : Rows _ _ _ := (dats m 0 c).toRRel_leaves (w := 5) rfl h
    have hp : pb ⟨t.val - 1, Nat.lt_of_le_of_lt (Nat.sub_le _ _) t.isLt⟩ = pb t := Fin.ext (by simp only [pb]; omega)
    rw [hp] at h'
    exact h' r j (by simp only; omega)

theorem rows_found7 (c : Dev nD) (t : Fin cfg0.N) (Y : Vec Ideal S1x8x2048 .f32) (h : (rdat m c).Finds 7 t Y) :
    Rows (2 * (t.val % 4)) (ts (a1 m c) (pb t)) Y := by
  intro r j hr
  have ht : t.val ≠ 0 := by omega
  rw [(rdat m c).finds_of_pos rfl ht] at h
  rcases h with h | h
  · have := (flush0_7 _).mp h; simp only at this; omega
  · have h' : Rows _ _ _ := (dats m 0 c).toRRel_leaves (w := 7) rfl h
    have hp : pb ⟨t.val - 1, Nat.lt_of_le_of_lt (Nat.sub_le _ _) t.isLt⟩ = pb t := Fin.ext (by simp only [pb]; omega)
    rw [hp] at h'
    exact h' r j (by simp only; omega)

theorem rows_found9 (c : Dev nD) (t : Fin cfg0.N) (Y : Vec Ideal S1x8x64 .f32) (h : (rdat m c).Finds 9 t Y) :
    VRows (2 * (t.val % 4)) (cs (a2 m c) (pb t)) Y := by
  intro r j hr
  have ht : t.val ≠ 0 := by omega
  rw [(rdat m c).finds_of_pos rfl ht] at h
  rcases h with h | h
  · have := (flush0_9 _).mp h; simp only at this; omega
  · have h' : VRows _ _ _ := (dats m 0 c).toRRel_leaves (w := 9) rfl h
    have hp : pb ⟨t.val - 1, Nat.lt_of_le_of_lt (Nat.sub_le _ _) t.isLt⟩ = pb t := Fin.ext (by simp only [pb]; omega)
    rw [hp] at h'
    exact h' r j (by simp only; omega)

/-- The rows that a point writes join those written before it. -/
theorem rows_step (A : Arr) (t : Fin cfg0.N) (d X : Vec Ideal S1x8x2048 .f32) (hX : PRow (grid0.coords t 1).val (tsc (bk A t)) d X)
    (hd : Rows (2 * (t.val % 4)) (ts A (pb t)) d) : Rows (2 * (t.val % 4) + 2) (ts A (pb t)) X := by
  intro r j hr
  rw [hX r j, coords1 t]
  by_cases e0 : r.val = 2 * (t.val % 4)
  · rw [if_pos e0, tsc_bk, show hh t 0 = r from Fin.ext (by simp only [hh]; show 2 * (t.val % 4) + 0 = r.val; omega)]
  · rw [if_neg e0]
    by_cases e1 : r.val = 2 * (t.val % 4) + 1
    · rw [if_pos e1, tsc_bk, show hh t 1 = r from Fin.ext (by simp only [hh]; show 2 * (t.val % 4) + 1 = r.val; omega)]
    · rw [if_neg e1]; exact hd r j (by omega)

/-- The rows that a point writes join those written before it. -/
theorem vrows_step (A : Arr) (t : Fin cfg0.N) (d X : Vec Ideal S1x8x64 .f32) (hX : PVRow (grid0.coords t 1).val (csc (bk A t)) d X)
    (hd : VRows (2 * (t.val % 4)) (cs A (pb t)) d) : VRows (2 * (t.val % 4) + 2) (cs A (pb t)) X := by
  intro r j hr
  rw [hX r j, coords1 t]
  by_cases e0 : r.val = 2 * (t.val % 4)
  · rw [if_pos e0, csc_bk, show hh t 0 = r from Fin.ext (by simp only [hh]; show 2 * (t.val % 4) + 0 = r.val; omega)]
  · rw [if_neg e0]
    by_cases e1 : r.val = 2 * (t.val % 4) + 1
    · rw [if_pos e1, csc_bk, show hh t 1 = r from Fin.ext (by simp only [hh]; show 2 * (t.val % 4) + 1 = r.val; omega)]
    · rw [if_neg e1]; exact hd r j (by omega)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ Y, ⌜(rdat m c).Finds 3 t Y⌝ ∗ owns (c : Thread nD τ) (ms0_3 t) fullShare Y)
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, ⌜Rl m c 3 t X⌝ ∗ owns (c : Thread nD τ) (ms0_3 t) fullShare X)
    ∗ (∃ X, ⌜Rl m c 4 t X⌝ ∗ owns (c : Thread nD τ) (ms0_4 t) fullShare X)
    ∗ (∃ X, ⌜Rl m c 5 t X⌝ ∗ owns (c : Thread nD τ) (ms0_5 t) fullShare X)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X))

set_option maxHeartbeats 4000000 in
/-- The body at any point. -/
theorem sound_body (c : Dev nD) (hg0 : Good (m ((c.tc : Thread nD τ).loc main_arg0))) (hg1 : Good (m ((c.tc : Thread nD τ).loc main_arg1)))
    (hg2 : Good (m ((c.tc : Thread nD τ).loc main_arg2))) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, -, H3⟩, ⟨%d4, -, H4⟩, ⟨%d5, %h5, H5⟩, ⟨%d6, -, H6⟩, ⟨%d7, %h7, H7⟩, ⟨%d8, -, H8⟩, ⟨%d9, %h9, H9⟩⟩
  iapply ((bodyRun c (grid0.coords t) _ _ _ _ _ _ _ _ _ _ _ _ _ _ _ _ _ _ _ _ _ _ _ _ _ _ _ _ _ _ (iblk m c 0 t) (iblk m c 1 t) (iblk m c 2 t)
    (bk (a0 m c) t) (bk (a1 m c) t) (bk (a2 m c) t) (iblk0 m c hg0 t) (fun i f => hg0.ok _ _ _) (iblk1 m c hg1 t) (fun i f => hg1.ok _ _ _)
    (iblk2 m c hg2 t) (fun i f => hg2.ok _ _ _) d5 d7 d9) Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexists _; iexact H6
  isplitl [H7]; · iexact H7
  isplitl [H8]; · iexists _; iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, ⟨%X3, %hX3, H3⟩, ⟨%X4, %hX4, H4⟩, ⟨%X5, %hX5, H5⟩, ⟨%X6, %hX6, H6⟩, ⟨%X7, %hX7, H7⟩, ⟨%X8, %hX8, H8⟩, ⟨%X9, %hX9, H9⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]
  · iexists X3; isplitr; · ipureintro; exact hX3
    iexact H3
  isplitl [H4]
  · iexists X4; isplitr; · ipureintro; exact hX4
    iexact H4
  isplitl [H5]
  · iexists X5; isplitr; · ipureintro; exact rows_step (a0 m c) t d5 X5 hX5 (rows_found m c t d5 h5)
    iexact H5
  isplitl [H6]
  · iexists X6; isplitr; · ipureintro; exact hX6
    iexact H6
  isplitl [H7]
  · iexists X7; isplitr; · ipureintro; exact rows_step (a1 m c) t d7 X7 hX7 (rows_found7 m c t d7 h7)
    iexact H7
  isplitl [H8]
  · iexists X8; isplitr; · ipureintro; exact hX8
    iexact H8
  iexists X9; isplitr; · ipureintro; exact vrows_step (a2 m c) t d9 X9 hX9 (rows_found9 m c t d9 h9)
  iexact H9

/-- The body table's row at a point's slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) (hg0 : Good (m ((c.tc : Thread nD τ).loc main_arg0))) (hg1 : Good (m ((c.tc : Thread nD τ).loc main_arg1)))
    (hg2 : Good (m ((c.tc : Thread nD τ).loc main_arg2))) :
    BodyObligationRel (dats m 0 c) (defs₀ (F := Ideal)) Variants.none () Set.univ outs (Rl m c) := fun t => by
  rw [bigSep_W0, bigSep_W0, defs₀_row]
  exact triple_restated (sound_body m c hg0 hg1 hg2 t) rfl .rfl fun _ => .rfl

set_option backward.isDefEq.respectTransparency.types false in
/-- The run: every array the windows stage ends as the relational data say. -/
theorem run_main (hg0 : ∀ c : Dev nD, Good (m ((c.tc : Thread nD τ).loc main_arg0))) (hg1 : ∀ c : Dev nD, Good (m ((c.tc : Thread nD τ).loc main_arg1)))
    (hg2 : ∀ c : Dev nD, Good (m ((c.tc : Thread nD τ).loc main_arg2))) :
    θ_run defs (onTc (τ := τ) (main (F := Ideal))) (s₀ m ρ) (Pipeline.RDat.FramePost (cfgs 0) (rdat m) (V m)) :=
  Pipeline.RDat.θ_run_frame cfgs (0 : Fin 1) launch0 defs₀ Variants.none (rdat m) m ρ main
    (hbody := fun c => (body_obligation m c (hg0 c) (hg1 c) (hg2 c)).toRRel) (hshare := fun c => (dats m 0 c).share_full fun _ => rfl)
    (howed := fun _ _ => rfl) (V := V m) (hmain := hmain m Variants.none) (hA := A_eq m) (hΦ := fun _ _ => rfl)

end Cert.KernelIdeal.Val

end
-- ==== Proof.KArr.lean ====
/- The seven result arrays of the idealized kernel over the reals, at the end of its run. -/
module

public import proofs.«01_k».proof.Proof.KRun

@[expose] public section

set_option maxRecDepth 16384

noncomputable section

namespace Cert.KernelIdeal.Val

open Cert.KernelIdeal Cert.KernelIdeal.Gen Cert.KernelIdeal.Run Cert.KernelIdeal.Quant Cert.KernelIdeal.Store Cert.Spec
open Idealize.ShloMosaic Idealize.ShloMosaic.TcCoe Idealize.ShloMosaic.Tactic
open Idealize.SL Idealize.SL.RA Idealize.SL.Sem
open Idealize.ShloMosaic.Pipeline (Dat RDat Cfg Window)

variable (m : (ℓ : Loc nD τ sig) → Buf (Elt Ideal) ℓ) (ρ : Dev nD → PrngReg)

/-- The grid point of a batch entry and a pair of heads. -/
def pt (b : Fin 9) (p : Fin 4) : Fin cfg0.N := ⟨4 * b.val + p.val, by show _ < 36; omega⟩

theorem pb_pt (b : Fin 9) (p : Fin 4) : pb (pt b p) = b := Fin.ext (by simp only [pb, pt]; omega)
/-- The pair of a head, and its place in the pair. -/
def pr (H : Fin 8) : Fin 4 := ⟨H.val / 2, by omega⟩
def lo (H : Fin 8) : Fin 2 := ⟨H.val % 2, by omega⟩
theorem hh_pt (b : Fin 9) (H : Fin 8) : hh (pt b (pr H)) (lo H) = H := Fin.ext (by simp only [hh, pt, pr, lo]; omega)

/-- Two points of one batch entry and one pair are one point. -/
theorem pt_inj (t t' : Fin cfg0.N) (h0 : t.val / 4 = t'.val / 4) (h1 : t.val % 4 = t'.val % 4) : t = t' := Fin.ext (by omega)

theorem disj3 : ∀ t t' : Fin cfg0.N, (cfg0.win 3).flush t = true → (cfg0.win 3).flush t' = true → t ≠ t' → Disjoint ((cfg0.win 3).blk t).view.set ((cfg0.win 3).blk t').view.set :=
  (cfg0.win 3).hdisj_of_index_inj fun t t' _ _ e => by
    rw [idx3 t, idx3 t'] at e
    have := congrFun e 0; have h2 := congrFun e 2; exact pt_inj t t' this h2

theorem disj4 : ∀ t t' : Fin cfg0.N, (cfg0.win 4).flush t = true → (cfg0.win 4).flush t' = true → t ≠ t' → Disjoint ((cfg0.win 4).blk t).view.set ((cfg0.win 4).blk t').view.set :=
  (cfg0.win 4).hdisj_of_index_inj fun t t' _ _ e => by
    rw [idx4 t, idx4 t'] at e
    have := congrFun e 0; have h2 := congrFun e 1; exact pt_inj t t' this h2

theorem disj5 : ∀ t t' : Fin cfg0.N, (cfg0.win 5).flush t = true → (cfg0.win 5).flush t' = true → t ≠ t' → Disjoint ((cfg0.win 5).blk t).view.set ((cfg0.win 5).blk t').view.set :=
  (cfg0.win 5).hdisj_of_index_inj fun t t' hf hf' e => by
    rw [idx5 t, idx5 t'] at e
    have := congrFun e 0; exact pt_inj t t' this (((flush0_5 t).mp hf).trans ((flush0_5 t').mp hf').symm)

theorem disj6 : ∀ t t' : Fin cfg0.N, (cfg0.win 6).flush t = true → (cfg0.win 6).flush t' = true → t ≠ t' → Disjoint ((cfg0.win 6).blk t).view.set ((cfg0.win 6).blk t').view.set :=
  (cfg0.win 6).hdisj_of_index_inj fun t t' _ _ e => by
    rw [idx6 t, idx6 t'] at e
    have := congrFun e 0; have h2 := congrFun e 1; exact pt_inj t t' this h2

theorem disj7 : ∀ t t' : Fin cfg0.N, (cfg0.win 7).flush t = true → (cfg0.win 7).flush t' = true → t ≠ t' → Disjoint ((cfg0.win 7).blk t).view.set ((cfg0.win 7).blk t').view.set :=
  (cfg0.win 7).hdisj_of_index_inj fun t t' hf hf' e => by
    rw [idx7 t, idx7 t'] at e
    have := congrFun e 0; exact pt_inj t t' this (((flush0_7 t).mp hf).trans ((flush0_7 t').mp hf').symm)

theorem disj8 : ∀ t t' : Fin cfg0.N, (cfg0.win 8).flush t = true → (cfg0.win 8).flush t' = true → t ≠ t' → Disjoint ((cfg0.win 8).blk t).view.set ((cfg0.win 8).blk t').view.set :=
  (cfg0.win 8).hdisj_of_index_inj fun t t' _ _ e => by
    rw [idx8 t, idx8 t'] at e
    have := congrFun e 0; have h2 := congrFun e 1; exact pt_inj t t' this h2

theorem disj9 : ∀ t t' : Fin cfg0.N, (cfg0.win 9).flush t = true → (cfg0.win 9).flush t' = true → t ≠ t' → Disjoint ((cfg0.win 9).blk t).view.set ((cfg0.win 9).blk t').view.set :=
  (cfg0.win 9).hdisj_of_index_inj fun t t' hf hf' e => by
    rw [idx9 t, idx9 t'] at e
    have := congrFun e 0; exact pt_inj t t' this (((flush0_9 t).mp hf).trans ((flush0_9 t').mp hf').symm)

variable {m ρ}

theorem pt_three (b : Fin 9) : (pt b 3).val % 4 = 3 := by show (4 * b.val + 3) % 4 = 3; omega

/-- Result array 0. -/
theorem arr3 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u))
    (b : Fin 9) (H : Fin 8) (i : Fin 2048) (d : Fin 64) :
    (((rdat m c).withAfter after).arrAt 3 cfg0.N : Vec Ideal S9x2048x512 .bf16) (ix3 b i ⟨64 * H.val + d.val, by omega⟩) = (att (a0 m c) (a1 m c) (a2 m c) b H d i : EReal) := by
  have hf : (cfg0.win 3).flush (pt b (pr H)) = true := flush0_3 _
  have hX : POut (bk (a0 m c) (pt b (pr H))) (bk (a1 m c) (pt b (pr H))) (bk (a2 m c) (pt b (pr H))) (after 3 (pt b (pr H))) := (dats m 0 c).toRRel_leaves (w := 3) rfl (hL 3 _ hf)
  have hx := hX (lo H) d i
  rw [head_bk, pb_pt, hh_pt] at hx
  rw [← hx]
  have h := ((rdat m c).withAfter after).arrAt_emb_eq_flushed 3 disj3 (pt b (pr H)) hf (ix3 (0 : Fin 1) i (ch (lo H) d))
  refine Eq.trans (congrArg _ ?_) (h.trans ?_)
  · have e : win0_3.index (pt b (pr H)) = ![b.val, 0, H.val / 2] := (idx3 (pt b (pr H))).trans (by rw [pt, pr]; simp only []; rw [show (4 * b.val + H.val / 2) / 4 = b.val by omega, show (4 * b.val + H.val / 2) % 4 = H.val / 2 by omega])
    blk_ext [e, lo, ch]
  · rfl

/-- Result array 1. -/
theorem arr4 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u))
    (b : Fin 9) (H : Fin 8) (d : Fin 64) (i : Fin 2048) :
    (((rdat m c).withAfter after).arrAt 4 cfg0.N : Vec Ideal S9x8x64x2048 .fp8e4m3) (ix4 b H d i) = (tc (a0 m c) b H d i : EReal) := by
  have hf : (cfg0.win 4).flush (pt b (pr H)) = true := flush0_4 _
  have hX : PCodes (tcd (bk (a0 m c) (pt b (pr H)))) (after 4 (pt b (pr H))) := (dats m 0 c).toRRel_leaves (w := 4) rfl (hL 4 _ hf)
  have hx := hX (lo H) d i
  rw [tcd_bk, pb_pt, hh_pt] at hx
  rw [← hx]
  have h := ((rdat m c).withAfter after).arrAt_emb_eq_flushed 4 disj4 (pt b (pr H)) hf (ix4 (0 : Fin 1) (lo H) d i)
  refine Eq.trans (congrArg _ ?_) (h.trans ?_)
  · have e : win0_4.index (pt b (pr H)) = ![b.val, H.val / 2, 0, 0] := (idx4 (pt b (pr H))).trans (by rw [pt, pr]; simp only []; rw [show (4 * b.val + H.val / 2) / 4 = b.val by omega, show (4 * b.val + H.val / 2) % 4 = H.val / 2 by omega])
    blk_ext [e, lo]
  · rfl

/-- Result array 3. -/
theorem arr6 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u))
    (b : Fin 9) (H : Fin 8) (d : Fin 64) (i : Fin 2048) :
    (((rdat m c).withAfter after).arrAt 6 cfg0.N : Vec Ideal S9x8x64x2048 .fp8e4m3) (ix4 b H d i) = (tc (a1 m c) b H d i : EReal) := by
  have hf : (cfg0.win 6).flush (pt b (pr H)) = true := flush0_6 _
  have hX : PCodes (tcd (bk (a1 m c) (pt b (pr H)))) (after 6 (pt b (pr H))) := (dats m 0 c).toRRel_leaves (w := 6) rfl (hL 6 _ hf)
  have hx := hX (lo H) d i
  rw [tcd_bk, pb_pt, hh_pt] at hx
  rw [← hx]
  have h := ((rdat m c).withAfter after).arrAt_emb_eq_flushed 6 disj6 (pt b (pr H)) hf (ix4 (0 : Fin 1) (lo H) d i)
  refine Eq.trans (congrArg _ ?_) (h.trans ?_)
  · have e : win0_6.index (pt b (pr H)) = ![b.val, H.val / 2, 0, 0] := (idx6 (pt b (pr H))).trans (by rw [pt, pr]; simp only []; rw [show (4 * b.val + H.val / 2) / 4 = b.val by omega, show (4 * b.val + H.val / 2) % 4 = H.val / 2 by omega])
    blk_ext [e, lo]
  · rfl

/-- Result array 5. -/
theorem arr8 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u))
    (b : Fin 9) (H : Fin 8) (d : Fin 64) (i : Fin 2048) :
    (((rdat m c).withAfter after).arrAt 8 cfg0.N : Vec Ideal S9x8x64x2048 .fp8e4m3) (ix4 b H d i) = (cc (a2 m c) b H d i : EReal) := by
  have hf : (cfg0.win 8).flush (pt b (pr H)) = true := flush0_8 _
  have hX : PCodes (ccd (bk (a2 m c) (pt b (pr H)))) (after 8 (pt b (pr H))) := (dats m 0 c).toRRel_leaves (w := 8) rfl (hL 8 _ hf)
  have hx := hX (lo H) d i
  rw [ccd_bk, pb_pt, hh_pt] at hx
  rw [← hx]
  have h := ((rdat m c).withAfter after).arrAt_emb_eq_flushed 8 disj8 (pt b (pr H)) hf (ix4 (0 : Fin 1) (lo H) d i)
  refine Eq.trans (congrArg _ ?_) (h.trans ?_)
  · have e : win0_8.index (pt b (pr H)) = ![b.val, H.val / 2, 0, 0] := (idx8 (pt b (pr H))).trans (by rw [pt, pr]; simp only []; rw [show (4 * b.val + H.val / 2) / 4 = b.val by omega, show (4 * b.val + H.val / 2) % 4 = H.val / 2 by omega])
    blk_ext [e, lo]
  · rfl

/-- Result array 2. -/
theorem arr5 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u))
    (b : Fin 9) (H : Fin 8) (i : Fin 2048) :
    (((rdat m c).withAfter after).arrAt 5 cfg0.N : Vec Ideal S9x8x2048 .f32) (ix3 b H i) = (ts (a0 m c) b H i : EReal) := by
  have hf : (cfg0.win 5).flush (pt b 3) = true := (flush0_5 _).mpr (pt_three b)
  have hX : Rows (2 * ((pt b 3).val % 4) + 2) (ts (a0 m c) (pb (pt b 3))) (after 5 (pt b 3)) := (dats m 0 c).toRRel_leaves (w := 5) rfl (hL 5 _ hf)
  have hx := hX H i (by rw [pt_three]; omega)
  rw [pb_pt] at hx
  rw [← hx]
  have h := ((rdat m c).withAfter after).arrAt_emb_eq_flushed 5 disj5 (pt b 3) hf (ix3 (0 : Fin 1) H i)
  refine Eq.trans (congrArg _ ?_) (h.trans ?_)
  · have e : win0_5.index (pt b 3) = ![b.val, 0, 0] := (idx5 (pt b 3)).trans (by rw [pt]; simp only []; rw [show (4 * b.val + (3 : Fin 4).val) / 4 = b.val by show (4 * b.val + 3) / 4 = b.val; omega])
    blk_ext [e]
  · rfl

/-- Result array 4. -/
theorem arr7 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u))
    (b : Fin 9) (H : Fin 8) (i : Fin 2048) :
    (((rdat m c).withAfter after).arrAt 7 cfg0.N : Vec Ideal S9x8x2048 .f32) (ix3 b H i) = (ts (a1 m c) b H i : EReal) := by
  have hf : (cfg0.win 7).flush (pt b 3) = true := (flush0_7 _).mpr (pt_three b)
  have hX : Rows (2 * ((pt b 3).val % 4) + 2) (ts (a1 m c) (pb (pt b 3))) (after 7 (pt b 3)) := (dats m 0 c).toRRel_leaves (w := 7) rfl (hL 7 _ hf)
  have hx := hX H i (by rw [pt_three]; omega)
  rw [pb_pt] at hx
  rw [← hx]
  have h := ((rdat m c).withAfter after).arrAt_emb_eq_flushed 7 disj7 (pt b 3) hf (ix3 (0 : Fin 1) H i)
  refine Eq.trans (congrArg _ ?_) (h.trans ?_)
  · have e : win0_7.index (pt b 3) = ![b.val, 0, 0] := (idx7 (pt b 3)).trans (by rw [pt]; simp only []; rw [show (4 * b.val + (3 : Fin 4).val) / 4 = b.val by show (4 * b.val + 3) / 4 = b.val; omega])
    blk_ext [e]
  · rfl

/-- Result array 6. -/
theorem arr9 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u))
    (b : Fin 9) (H : Fin 8) (i : Fin 64) :
    (((rdat m c).withAfter after).arrAt 9 cfg0.N : Vec Ideal S9x8x64 .f32) (ix3 b H i) = (cs (a2 m c) b H i : EReal) := by
  have hf : (cfg0.win 9).flush (pt b 3) = true := (flush0_9 _).mpr (pt_three b)
  have hX : VRows (2 * ((pt b 3).val % 4) + 2) (cs (a2 m c) (pb (pt b 3))) (after 9 (pt b 3)) := (dats m 0 c).toRRel_leaves (w := 9) rfl (hL 9 _ hf)
  have hx := hX H i (by rw [pt_three]; omega)
  rw [pb_pt] at hx
  rw [← hx]
  have h := ((rdat m c).withAfter after).arrAt_emb_eq_flushed 9 disj9 (pt b 3) hf (ix3 (0 : Fin 1) H i)
  refine Eq.trans (congrArg _ ?_) (h.trans ?_)
  · have e : win0_9.index (pt b 3) = ![b.val, 0, 0] := (idx9 (pt b 3)).trans (by rw [pt]; simp only []; rw [show (4 * b.val + (3 : Fin 4).val) / 4 = b.val by show (4 * b.val + 3) / 4 = b.val; omega])
    blk_ext [e]
  · rfl

end Cert.KernelIdeal.Val

end
-- ==== Proof.KEnd.lean ====
/- The run of the idealized kernel over the reals: every result array at its end, and the arguments unchanged. -/
module

public import proofs.«01_k».proof.Proof.KArr
public import proofs.«01_k».proof.Proof.KernelIdealFrame

@[expose] public section

set_option maxRecDepth 16384

noncomputable section

namespace Cert.KernelIdeal.Val

open Cert.KernelIdeal Cert.KernelIdeal.Gen Cert.Spec
open Idealize.ShloMosaic Idealize.ShloMosaic.TcCoe
open Idealize.SL Idealize.SL.Sem

variable (m : (ℓ : Loc nD τ sig) → Buf (Elt Ideal) ℓ) (ρ : Dev nD → PrngReg)

/-- The kernel's run: every result array, over the reals, and the arguments unchanged. -/
theorem run (hg0 : ∀ c : Dev nD, Good (m ((c.tc : Thread nD τ).loc main_arg0))) (hg1 : ∀ c : Dev nD, Good (m ((c.tc : Thread nD τ).loc main_arg1)))
    (hg2 : ∀ c : Dev nD, Good (m ((c.tc : Thread nD τ).loc main_arg2))) :
    θ_run defs (onTc (τ := τ) (main (F := Ideal))) ⟨m, fun _ => 0, ρ⟩ fun r => ∀ c : Dev nD,
      (∀ b H i d, (r.2.mem ((c.tc : Thread nD τ).loc main_v0_0) : Vec Ideal S9x2048x512 .bf16) (ix3 b i ⟨64 * H.val + d.val, by omega⟩) = (att (a0 m c) (a1 m c) (a2 m c) b H d i : EReal))
      ∧ (∀ b H d i, (r.2.mem ((c.tc : Thread nD τ).loc main_v0_1) : Vec Ideal S9x8x64x2048 .fp8e4m3) (ix4 b H d i) = (tc (a0 m c) b H d i : EReal))
      ∧ (∀ b H i, (r.2.mem ((c.tc : Thread nD τ).loc main_v0_2) : Vec Ideal S9x8x2048 .f32) (ix3 b H i) = (ts (a0 m c) b H i : EReal))
      ∧ (∀ b H d i, (r.2.mem ((c.tc : Thread nD τ).loc main_v0_3) : Vec Ideal S9x8x64x2048 .fp8e4m3) (ix4 b H d i) = (tc (a1 m c) b H d i : EReal))
      ∧ (∀ b H i, (r.2.mem ((c.tc : Thread nD τ).loc main_v0_4) : Vec Ideal S9x8x2048 .f32) (ix3 b H i) = (ts (a1 m c) b H i : EReal))
      ∧ (∀ b H d i, (r.2.mem ((c.tc : Thread nD τ).loc main_v0_5) : Vec Ideal S9x8x64x2048 .fp8e4m3) (ix4 b H d i) = (cc (a2 m c) b H d i : EReal))
      ∧ (∀ b H d, (r.2.mem ((c.tc : Thread nD τ).loc main_v0_6) : Vec Ideal S9x8x64 .f32) (ix3 b H d) = (cs (a2 m c) b H d : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨after, hL, hA⟩ := h.1.exists_exact c
    exact ⟨fun b H i d => (congrFun (hA 3) _).trans (arr3 c after hL b H i d), fun b H d i => (congrFun (hA 4) _).trans (arr4 c after hL b H d i),
      fun b H i => (congrFun (hA 5) _).trans (arr5 c after hL b H i), fun b H d i => (congrFun (hA 6) _).trans (arr6 c after hL b H d i),
      fun b H i => (congrFun (hA 7) _).trans (arr7 c after hL b H i), fun b H d i => (congrFun (hA 8) _).trans (arr8 c after hL b H d i),
      fun b H d => (congrFun (hA 9) _).trans (arr9 c after hL b H d), h.2 c⟩)
    (θ_run_and (run_main m ρ hg0 hg1 hg2) (FrameRun.frame_of m ρ (rdat m) (A_eq m) (run_main m ρ hg0 hg1 hg2)))

end Cert.KernelIdeal.Val

end
-- ==== Proof.RefVal.lean ====
/- The values the reference computes, over the reals: scales, codes and the attention output. -/
module

public import proofs.«01_k».proof.Proof.Gen.ReferenceIdeal.Frame
public import proofs.«01_k».proof.Proof.Gen.ReferenceIdeal.Skeleton
public import proofs.«01_k».proof.Proof.Spec
public import proofs.«01_k».proof.Proof.Result
public import Idealize.ShloMosaic.Lib.Pointwise
public import Idealize.ShloMosaic.Lib.Claim

@[expose] public section

set_option maxRecDepth 16384

noncomputable section

namespace Cert.ReferenceIdeal.Val

open Idealize.ShloMosaic Idealize.ShloMosaic.TcCoe Cert.ReferenceIdeal Cert.ReferenceIdeal.Gen Cert.Spec

section Vec
variable {F : FTy → Type} [FloatOps F] [Named F] {s : Shape}

/-- The exponent of a scale, from a greatest magnitude. -/
def rexp (v : FVec F s .f32) : FVec F s .f32 :=
  select (cmpf .oeq v (broadcast s (Scalar.ofBits .f32 0x00000000#32))) (broadcast s (Scalar.ofBits .f32 0x00000000#32))
    (addf (floor (divf (log (mulf v (broadcast s (Scalar.ofBits .f32 0x3B124925#32)))) (broadcast s (Named.named κ "ln2" 0x3F317218#32))))
      (broadcast s (Scalar.ofBits .f32 0x3F800000#32)))

/-- The scale. -/
def rscale (v : FVec F s .f32) : FVec F s .f32 := exp2 (rexp v)

/-- Its reciprocal. -/
def rinv (v : FVec F s .f32) : FVec F s .f32 := exp2 (subf (broadcast s (Scalar.ofBits .f32 0x00000000#32)) (rexp v))

/-- Each token's greatest magnitude over the channels. -/
def tokMax (x : Vec F S72x2048x64 .bf16) : FVec F S72x2048x1 .f32 :=
  shapeCast S72x2048x1 (multiReduction .maximumf [2] S72x2048 (absf (k0_pay5 x)) 0xFF800000#32 reduces_S72x2048x64_S72x2048 (.inl rfl) rfl) shapeCasts_S72x2048_S72x2048x1

/-- Each channel's greatest magnitude over the tokens. -/
def chaMax (x : Vec F S72x2048x64 .bf16) : FVec F S72x1x64 .f32 :=
  shapeCast S72x1x64 (multiReduction .maximumf [1] S72x64 (absf (k0_pay5 x)) 0xFF800000#32 reduces_S72x2048x64_S72x64 (.inl rfl) rfl) shapeCasts_S72x64_S72x1x64

/-- The codes at reciprocal scales. -/
def rcode (x : Vec F S72x2048x64 .bf16) (w : FVec F S72x2048x64 .f32) : FVec F S72x2048x64 .f32 :=
  minimumf (broadcast S72x2048x64 (Scalar.ofBits .f32 0x43E00000#32)) (maximumf (broadcast S72x2048x64 (Scalar.ofBits .f32 0xC3E00000#32)) (mulf (k0_pay5 x) w))

/-- The codes of queries or keys. -/
def codeT (x : Vec F S72x2048x64 .bf16) : FVec F S72x2048x64 .fp8e4m3 :=
  truncf .fp8e4m3 (rcode x (broadcastTo S72x2048x64 (rinv (tokMax x)) broadcasts_S72x2048x1_S72x2048x64)) bitsLt_fp8e4m3_f32

/-- The codes of values. -/
def codeC (x : Vec F S72x2048x64 .bf16) : FVec F S72x2048x64 .fp8e4m3 :=
  truncf .fp8e4m3 (rcode x (broadcastTo S72x2048x64 (rinv (chaMax x)) broadcasts_S72x1x64_S72x2048x64)) bitsLt_fp8e4m3_f32

/-- The scores. -/
def scores (q k : FVec F S72x2048x64 .fp8e4m3) (sq sk : FVec F S72x2048x1 .f32) : FVec F S72x2048x2048 .f32 :=
  mulf (mulf (matmul dot_S72x2048x64_S72x2048x64_S72x2048x2048_2_2_1_1_0_0 none q k (constant S72x2048x2048 .f32 0x00000000#32))
      (broadcastTo S72x2048x2048 (mulf sq (broadcast S72x2048x1 (Scalar.ofBits .f32 0x3E000000#32))) broadcasts_S72x2048x1_S72x2048x2048))
    (broadcastTo S72x2048x2048 (transpose S72x1x2048 [0, 2, 1] sk transposes_S72x2048x1_p0_2_1_S72x1x2048) broadcasts_S72x1x2048_S72x2048x2048)

/-- The exponentials of the scores less their row's greatest. -/
def weights (S : FVec F S72x2048x2048 .f32) : FVec F S72x2048x2048 .f32 :=
  exp (subf S (broadcastTo S72x2048x2048 (shapeCast S72x2048x1 (multiReduction .maximumf [2] S72x2048 S 0xFF800000#32 reduces_S72x2048x2048_S72x2048 (.inl rfl) rfl) shapeCasts_S72x2048_S72x2048x1) broadcasts_S72x2048x1_S72x2048x2048))

/-- The codes of the weights. -/
def pcode (P : FVec F S72x2048x2048 .f32) : FVec F S72x2048x2048 .fp8e4m3 :=
  truncf .fp8e4m3 (minimumf (broadcast S72x2048x2048 (Scalar.ofBits .f32 0x43E00000#32)) (maximumf (broadcast S72x2048x2048 (Scalar.ofBits .f32 0x00000000#32))
    (mulf P (broadcast S72x2048x2048 (Scalar.ofBits .f32 0x43800000#32))))) bitsLt_fp8e4m3_f32

/-- The rows' sums of weights. -/
def rowSum (P : FVec F S72x2048x2048 .f32) : FVec F S72x2048x1 .f32 :=
  shapeCast S72x2048x1 (multiReduction .add [2] S72x2048 P 0x00000000#32 reduces_S72x2048x2048_S72x2048 (.inl rfl) rfl) shapeCasts_S72x2048_S72x2048x1

/-- The attention output, a head at a time. -/
def heads (P : FVec F S72x2048x2048 .f32) (v : FVec F S72x2048x64 .fp8e4m3) (sv : FVec F S72x1x64 .f32) : FVec F S72x2048x64 .f32 :=
  divf (mulf (matmul dot_S72x2048x2048_S72x2048x64_S72x2048x64_2_1_1_2_0_0 none (pcode P) v (constant S72x2048x64 .f32 0x00000000#32))
      (broadcastTo S72x2048x64 (mulf sv (broadcast S72x1x64 (Scalar.ofBits .f32 0x3B800000#32))) broadcasts_S72x1x64_S72x2048x64))
    (broadcastTo S72x2048x64 (rowSum P) broadcasts_S72x2048x1_S72x2048x64)

/-- Heads side by side. -/
def joined (y : FVec F S72x2048x64 .f32) : FVec F S9x2048x512 .bf16 :=
  truncf .bf16 (shapeCast S9x2048x512 (transpose S9x2048x8x64 [0, 2, 1, 3] (shapeCast S9x8x2048x64 y shapeCasts_S72x2048x64_S9x8x2048x64) transposes_S9x8x2048x64_p0_2_1_3_S9x2048x8x64) shapeCasts_S9x2048x8x64_S9x2048x512) bitsLt_bf16_f32

/-- Codes with channels before tokens. -/
def flipped (y : FVec F S72x2048x64 .fp8e4m3) : FVec F S9x8x64x2048 .fp8e4m3 :=
  shapeCast S9x8x64x2048 (transpose S72x64x2048 [0, 2, 1] y transposes_S72x2048x64_p0_2_1_S72x64x2048) shapeCasts_S72x64x2048_S9x8x64x2048

variable (x0 x1 x2 : Vec F S72x2048x64 .bf16)

theorem pay24_eq : k0_pay24 x0 x1 x2 = codeT (View.ld x0 r0_0) := rfl
theorem pay25_eq : k0_pay25 x0 x1 x2 = rscale (tokMax (View.ld x0 r0_0)) := rfl
theorem pay28_eq : k0_pay28 x0 x1 x2 = codeT (View.ld x1 r0_0) := rfl
theorem pay29_eq : k0_pay29 x0 x1 x2 = rscale (tokMax (View.ld x1 r0_0)) := rfl
theorem vcode_eq : k0_pay19 (k0_pay31 x0 x1 x2) (k0_pay32 x0 x1 x2) = codeC (View.ld x2 r0_0) := rfl
theorem vscale_eq' : k0_pay20 (k0_pay30 x0 x1 x2) = rscale (chaMax (View.ld x2 r0_0)) := rfl

theorem pay21_eq (v27 : FVec F S72x2048x64 .fp8e4m3) (v28 : FVec F S72x2048x1 .f32) (v56 : FVec F S72x2048x64 .fp8e4m3) (v57 : FVec F S72x2048x1 .f32) (v75 : FVec F S72x1x64 .f32) (v82 : FVec F S72x2048x64 .f32) (v83 : FVec F S72x2048x64 .f32) :
    k0_pay21 v27 v28 v56 v57 v75 v82 v83 = joined (heads (weights (scores v27 v56 v28 v57)) (k0_pay19 v82 v83) (k0_pay20 v75)) := rfl
theorem pay22_eq (y : FVec F S72x2048x64 .fp8e4m3) : k0_pay22 y = flipped y := rfl
theorem pay23_eq (y : FVec F S72x2048x64 .fp8e4m3) : k0_pay23 y = flipped y := rfl
theorem pay1_eq (y : FVec F S72x2048x64 .fp8e4m3) : k0_pay1 y = flipped y := rfl

/-- A load of the whole buffer reads it. -/
theorem ld_whole (x : Vec F S72x2048x64 .bf16) : View.ld x r0_0 = x := by
  funext i
  show x (r0_0.idx i) = x i
  exact congrArg x (funext fun a => Fin.ext (by
    show (![0, 0, 0] : Fin 3 → ℕ) a + 1 * (i a).val = (i a).val
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega))

end Vec

section Scale
variable {s : Shape} (v : FVec Ideal s .f32) (i : s.Idx) (a : ℝ)

theorem c448_lit : Ideal.ofBits FTy.f32 0x3B124925#32 = (c448 : EReal) := by
  simp [Ideal.ofBits, Ideal.ieee, c448, -EReal.coe_mul]; norm_num
theorem p448_lit : Ideal.ofBits FTy.f32 0x43E00000#32 = ((448 : ℝ) : EReal) := by
  simp [Ideal.ofBits, Ideal.ieee, -EReal.coe_mul]; norm_num
theorem n448_lit : Ideal.ofBits FTy.f32 0xC3E00000#32 = ((-448 : ℝ) : EReal) := by
  simp [Ideal.ofBits, Ideal.ieee, -EReal.coe_mul]; norm_num
theorem one_lit : Ideal.ofBits FTy.f32 0x3F800000#32 = ((1 : ℝ) : EReal) := by
  simp [Ideal.ofBits, Ideal.ieee, -EReal.coe_mul]; norm_num
theorem zero_lit : Ideal.ofBits FTy.f32 0x00000000#32 = ((0 : ℝ) : EReal) := by
  simp [Ideal.ofBits, Ideal.ieee]
theorem eighth_lit : Ideal.ofBits FTy.f32 0x3E000000#32 = ((1 / 8 : ℝ) : EReal) := by
  simp [Ideal.ofBits, Ideal.ieee, -EReal.coe_mul]; norm_num
theorem p256_lit : Ideal.ofBits FTy.f32 0x43800000#32 = ((256 : ℝ) : EReal) := by
  simp [Ideal.ofBits, Ideal.ieee, -EReal.coe_mul]; norm_num
theorem i256_lit : Ideal.ofBits FTy.f32 0x3B800000#32 = ((1 / 256 : ℝ) : EReal) := by
  simp [Ideal.ofBits, Ideal.ieee, -EReal.coe_mul]; norm_num

/-- The scale's exponent. -/
def ex (a : ℝ) : ℤ := if a = 0 then 0 else lg (a * c448) + 1

theorem sc_ex (a : ℝ) : sc a = (2 : ℝ) ^ ex a := by
  unfold sc ex; split <;> simp

theorem rexp_apply (ha : 0 ≤ a) (hv : v i = (a : EReal)) : rexp v i = (((ex a : ℤ) : ℝ) : EReal) := by
  have e := (IdealRules.named_const.statement Cert.ReferenceIdeal.κ "ln2" .f32 0x3F317218#32 ((Real.log 2 : ℝ) : EReal) rfl).2.2
  have h2 : 0 < Real.log 2 := Real.log_pos (by norm_num)
  show Scalar.select (Ideal.cmp .oeq (v i) (Ideal.ofBits .f32 0x00000000#32)) (Ideal.ofBits .f32 0x00000000#32)
    (Ideal.liftRound Int.floor (Ideal.div (Ideal.log (v i * Ideal.ofBits .f32 0x3B124925#32)) (Named.named (F := Ideal) (φ := .f32) κ "ln2" 0x3F317218#32)) + Ideal.ofBits .f32 0x3F800000#32) = _
  rw [hv, zero_lit, c448_lit, one_lit, show (Named.named (F := Ideal) (φ := .f32) κ "ln2" 0x3F317218#32 : EReal) = ((Real.log 2 : ℝ) : EReal) from e]
  by_cases h0 : a = 0
  · subst h0
    simp [Scalar.select, Ideal.cmp, ex]
  · have hp : 0 < a * c448 := mul_pos (lt_of_le_of_ne ha (Ne.symm h0)) c448_pos
    rw [← EReal.coe_mul, Ideal.log_coe, if_neg (not_le.2 hp), div_pos_coe _ _ h2]
    have hne : ¬ ((a : EReal) = ((0 : ℝ) : EReal)) := by rw [EReal.coe_eq_coe_iff]; exact h0
    have hc : Ideal.cmp .oeq (a : EReal) ((0 : ℝ) : EReal) = 0#1 := by simp [Ideal.cmp, h0]
    rw [hc]
    show Ideal.liftRound Int.floor ((Real.log (a * c448) / Real.log 2 : ℝ) : EReal) + ((1 : ℝ) : EReal) = _
    show (((⌊Real.log (a * c448) / Real.log 2⌋ : ℤ) : ℝ) : EReal) + ((1 : ℝ) : EReal) = _
    rw [← EReal.coe_add, ex, if_neg h0, lg]; push_cast; rfl

theorem rscale_apply (ha : 0 ≤ a) (hv : v i = (a : EReal)) : rscale v i = (sc a : EReal) := by
  show Ideal.exp2 (rexp v i) = _
  rw [rexp_apply v i a ha hv, Ideal.exp2_coe, sc_ex]
  exact congrArg _ (Real.rpow_intCast 2 (ex a))

theorem rinv_apply (ha : 0 ≤ a) (hv : v i = (a : EReal)) : rinv v i = (((sc a)⁻¹ : ℝ) : EReal) := by
  show Ideal.exp2 (Ideal.ofBits .f32 0x00000000#32 - rexp v i) = _
  rw [rexp_apply v i a ha hv, zero_lit, ← EReal.coe_sub, Ideal.exp2_coe, sc_ex, zero_sub, ← zpow_neg, ← Int.cast_neg]
  exact congrArg _ (Real.rpow_intCast 2 (-ex a))

end Scale

theorem absf_coe (a : ℝ) : (FloatOps.absf (F := Ideal) (φ := .f32) (a : EReal) : EReal) = ((|a| : ℝ) : EReal) := abs_coe a

theorem gmax_nonneg {n : ℕ} [NeZero n] (f : Fin n → ℝ) : 0 ≤ gmax fun i => |f i| :=
  (abs_nonneg (f 0)).trans (le_gmax (fun i => |f i|) 0)

section Codes
variable (x : Vec Ideal S72x2048x64 .bf16) (X : Fin 72 → Fin 2048 → Fin 64 → ℝ) (hx : ∀ e i d, x (ix3 e i d) = (X e i d : EReal))
include hx

theorem tokMax_apply (e : Fin 72) (i : Fin 2048) : tokMax x (ix3 e i 0) = ((gmax fun d => |X e i d| : ℝ) : EReal) := by
  pointwise [tokMax, k0_pay5]
  simp only [hx, absf_coe, ninf, fold_max_coe]

theorem chaMax_apply (e : Fin 72) (d : Fin 64) : chaMax x (ix3 e 0 d) = ((gmax fun i => |X e i d| : ℝ) : EReal) := by
  pointwise [chaMax, k0_pay5]
  simp only [hx, absf_coe, ninf, fold_max_coe]

theorem tokScale_apply (e : Fin 72) (i : Fin 2048) : rscale (tokMax x) (ix3 e i 0) = (sc (gmax fun d => |X e i d|) : EReal) :=
  rscale_apply _ _ _ (gmax_nonneg _) (tokMax_apply x X hx e i)

theorem chaScale_apply (e : Fin 72) (d : Fin 64) : rscale (chaMax x) (ix3 e 0 d) = (sc (gmax fun i => |X e i d|) : EReal) :=
  rscale_apply _ _ _ (gmax_nonneg _) (chaMax_apply x X hx e d)

theorem rcode_apply (w : FVec Ideal S72x2048x64 .f32) (e : Fin 72) (i : Fin 2048) (d : Fin 64) (r : ℝ)
    (hw : w (ix3 e i d) = ((r⁻¹ : ℝ) : EReal)) : rcode x w (ix3 e i d) = (code (X e i d) r : EReal) := by
  pointwise [rcode, k0_pay5]
  rw [hx, hw, p448_lit, n448_lit, ← EReal.coe_mul, coe_max, coe_min]; rfl

theorem codeT_apply (e : Fin 72) (i : Fin 2048) (d : Fin 64) : codeT x (ix3 e i d) = (code (X e i d) (sc (gmax fun d => |X e i d|)) : EReal) := by
  refine rcode_apply x X hx _ e i d _ ?_
  have h : broadcastTo S72x2048x64 (rinv (tokMax x)) broadcasts_S72x2048x1_S72x2048x64 (ix3 e i d) = rinv (tokMax x) (ix3 e i 0) := by pointwise []
  rw [h]
  exact rinv_apply _ _ _ (gmax_nonneg _) (tokMax_apply x X hx e i)

theorem codeC_apply (e : Fin 72) (i : Fin 2048) (d : Fin 64) : codeC x (ix3 e i d) = (code (X e i d) (sc (gmax fun i => |X e i d|)) : EReal) := by
  refine rcode_apply x X hx _ e i d _ ?_
  have h : broadcastTo S72x2048x64 (rinv (chaMax x)) broadcasts_S72x1x64_S72x2048x64 (ix3 e i d) = rinv (chaMax x) (ix3 e 0 d) := by pointwise []
  rw [h]
  exact rinv_apply _ _ _ (gmax_nonneg _) (chaMax_apply x X hx e d)

end Codes

section Attention

theorem scores_apply (q k : FVec Ideal S72x2048x64 .fp8e4m3) (sq sk : FVec Ideal S72x2048x1 .f32) (Q K : Fin 72 → Fin 2048 → Fin 64 → ℝ) (A B : Fin 72 → Fin 2048 → ℝ)
    (hq : ∀ e i d, q (ix3 e i d) = (Q e i d : EReal)) (hk : ∀ e i d, k (ix3 e i d) = (K e i d : EReal))
    (ha : ∀ e i, sq (ix3 e i 0) = (A e i : EReal)) (hb : ∀ e i, sk (ix3 e i 0) = (B e i : EReal)) (e : Fin 72) (i j : Fin 2048) :
    scores q k sq sk (ix3 e i j) = (((∑ d, Q e i d * K e j d) * (A e i * (1 / 8)) * B e j : ℝ) : EReal) := by
  pointwise [scores]
  simp only [hq, hk, ha, hb, eighth_lit, ← EReal.coe_mul]
  rw [coe_sum, ← EReal.coe_mul, ← EReal.coe_mul]

theorem weights_apply (S : FVec Ideal S72x2048x2048 .f32) (T : Fin 72 → Fin 2048 → Fin 2048 → ℝ) (hS : ∀ e i j, S (ix3 e i j) = (T e i j : EReal)) (e : Fin 72) (i j : Fin 2048) :
    weights S (ix3 e i j) = ((Real.exp (T e i j - gmax (T e i)) : ℝ) : EReal) := by
  pointwise [weights]
  simp only [hS, ninf, fold_max_coe, ← EReal.coe_sub]
  rfl

theorem pcode_apply (P : FVec Ideal S72x2048x2048 .f32) (W : Fin 72 → Fin 2048 → Fin 2048 → ℝ) (hP : ∀ e i j, P (ix3 e i j) = (W e i j : EReal))
    (h0 : ∀ e i j, 0 ≤ W e i j) (h1 : ∀ e i j, W e i j ≤ 1) (e : Fin 72) (i j : Fin 2048) :
    pcode P (ix3 e i j) = ((W e i j * 256 : ℝ) : EReal) := by
  have h : pcode P (ix3 e i j) = ((min 448 (max 0 (W e i j * 256)) : ℝ) : EReal) := by
    show min (Ideal.ofBits .f32 0x43E00000#32) (max (Ideal.ofBits .f32 0x00000000#32) (P (ix3 e i j) * Ideal.ofBits .f32 0x43800000#32)) = _
    rw [hP, p448_lit, zero_lit, p256_lit, ← EReal.coe_mul, coe_max, coe_min]
  rw [h, max_eq_right (by have := h0 e i j; positivity), min_eq_right (by have := h1 e i j; linarith)]

theorem rowSum_apply (P : FVec Ideal S72x2048x2048 .f32) (W : Fin 72 → Fin 2048 → Fin 2048 → ℝ) (hP : ∀ e i j, P (ix3 e i j) = (W e i j : EReal)) (e : Fin 72) (i : Fin 2048) :
    rowSum P (ix3 e i 0) = ((∑ j, W e i j : ℝ) : EReal) := by
  pointwise [rowSum]
  simp only [hP]
  rw [coe_sum]

theorem heads_apply (P : FVec Ideal S72x2048x2048 .f32) (v : FVec Ideal S72x2048x64 .fp8e4m3) (sv : FVec Ideal S72x1x64 .f32)
    (T : Fin 72 → Fin 2048 → Fin 2048 → ℝ) (Vv : Fin 72 → Fin 2048 → Fin 64 → ℝ) (w : Fin 72 → Fin 64 → ℝ)
    (hP : ∀ e i j, P (ix3 e i j) = ((Real.exp (T e i j - gmax (T e i)) : ℝ) : EReal))
    (hv : ∀ e i d, v (ix3 e i d) = (Vv e i d : EReal)) (hw : ∀ e d, sv (ix3 e 0 d) = (w e d : EReal)) (e : Fin 72) (i : Fin 2048) (d : Fin 64) :
    heads P v sv (ix3 e i d) = (attn (T e i) (fun j => Vv e j d) (w e d) : EReal) := by
  have hp := pcode_apply P (fun e i j => Real.exp (T e i j - gmax (T e i))) hP (fun e i j => (Real.exp_pos _).le)
    (fun e i j => Real.exp_le_one_iff.2 (sub_nonpos.2 (le_gmax _ _)))
  have hs := rowSum_apply P (fun e i j => Real.exp (T e i j - gmax (T e i))) hP e i
  have pos : 0 < ∑ j, Real.exp (T e i j - gmax (T e i)) := Finset.sum_pos (fun j _ => Real.exp_pos _) ⟨0, Finset.mem_univ _⟩
  pointwise [heads]
  simp only [hp, hs, hv, hw, i256_lit, ← EReal.coe_mul]
  rw [coe_sum, ← EReal.coe_mul, div_pos_coe _ _ pos]
  congr 1
  unfold attn
  congr 1
  rw [Finset.sum_mul, Finset.sum_mul]
  refine Finset.sum_congr rfl fun j _ => ?_
  ring

end Attention

/-- The place of head `H` of batch entry `b`. -/
def bh (b : Fin 9) (H : Fin 8) : Fin 72 := ⟨b.val * 8 + H.val, by omega⟩

theorem joined_apply (y : FVec Ideal S72x2048x64 .f32) (b : Fin 9) (H : Fin 8) (i : Fin 2048) (d : Fin 64) :
    joined y (ix3 b i ⟨64 * H.val + d.val, by omega⟩) = y (ix3 (bh b H) i d) := by
  pointwise [joined]
  rfl

theorem flipped_apply (y : FVec Ideal S72x2048x64 .fp8e4m3) (b : Fin 9) (H : Fin 8) (i : Fin 2048) (d : Fin 64) :
    flipped y (ix4 b H d i) = y (ix3 (bh b H) i d) := by
  pointwise [flipped]
  rfl

end Cert.ReferenceIdeal.Val

end
-- ==== Proof.RefArr.lean ====
/- The arrays that the reference's one grid point reads and leaves. -/
module

public import proofs.«01_k».proof.Proof.RefVal
public import Idealize.ShloMosaic.Lib.Pipeline.ValueKit

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One argument with its heads apart. -/
def apart (x : Vec Ideal S9x2048x512 .bf16) : Vec Ideal S72x2048x64 .bf16 :=
  shapeCast S72x2048x64 (transpose S9x8x2048x64 [0, 2, 1, 3] (shapeCast S9x2048x8x64 x shapeCasts_S9x2048x512_S9x2048x8x64) transposes_S9x2048x8x64_S9x8x2048x64_0_2_1_3) shapeCasts_S9x8x2048x64_S72x2048x64

/-- A real array with its heads apart. -/
def hds (A : Arr) (e : Fin 72) (i : Fin 2048) (d : Fin 64) : ℝ := hd A ⟨e.val / 8, by omega⟩ ⟨e.val % 8, by omega⟩ i d

theorem hds_bh (A : Arr) (b : Fin 9) (H : Fin 8) : hds A (bh b H) = hd A b H := by
  funext i d
  unfold hds
  rw [show (⟨(bh b H).val / 8, by have := (bh b H).isLt; omega⟩ : Fin 9) = b from Fin.ext (by simp only [bh]; omega),
    show (⟨(bh b H).val % 8, by omega⟩ : Fin 8) = H from Fin.ext (by simp only [bh]; omega)]

theorem apart_apply (x : Vec Ideal S9x2048x512 .bf16) (A : Arr) (hx : ∀ b i f, x (ix3 b i f) = (A b i f : EReal)) (e : Fin 72) (i : Fin 2048) (d : Fin 64) :
    apart x (ix3 e i d) = (hds A e i d : EReal) := by
  refine Eq.trans ?_ (hx ⟨e.val / 8, by omega⟩ i ⟨64 * (e.val % 8) + d.val, by omega⟩)
  pointwise [apart]
  exact congrArg x (congrArg (ix3 _ i) (Fin.ext (by show e.val % 8 * 64 + d.val = 64 * (e.val % 8) + d.val; omega)))

theorem V2 (c : Dev nD) : V m c main_v2 = apart (m ((c.tc : Thread nD τ).loc main_arg0)) := rfl
theorem V5 (c : Dev nD) : V m c main_v5 = apart (m ((c.tc : Thread nD τ).loc main_arg1)) := rfl
theorem V8 (c : Dev nD) : V m c main_v8 = apart (m ((c.tc : Thread nD τ).loc main_arg2)) := rfl

theorem idx0 : ∀ t : Fin cfg0.N, (cfg0.win 0).index t = ![0, 0, 0] := (by decide +kernel : ∀ t : Fin grid0.N, win0_0.index t = ![0, 0, 0])
theorem idx1 : ∀ t : Fin cfg0.N, (cfg0.win 1).index t = ![0, 0, 0] := (by decide +kernel : ∀ t : Fin grid0.N, win0_1.index t = ![0, 0, 0])
theorem idx2 : ∀ t : Fin cfg0.N, (cfg0.win 2).index t = ![0, 0, 0] := (by decide +kernel : ∀ t : Fin grid0.N, win0_2.index t = ![0, 0, 0])

theorem iblk0 (c : Dev nD) : (iblk m c 0 t0_0 : Vec Ideal S72x2048x64 .bf16) = apart (m ((c.tc : Thread nD τ).loc main_arg0)) := by
  rw [← V2]
  funext i
  show (V m c main_v2) (((cfg0.win 0).blk t0_0).view.emb i) = V m c main_v2 i
  refine congrArg (V m c main_v2) ?_
  have e : win0_0.index t0_0 = ![0, 0, 0] := idx0 t0_0
  blk_ext [e]
theorem iblk1 (c : Dev nD) : (iblk m c 1 t0_0 : Vec Ideal S72x2048x64 .bf16) = apart (m ((c.tc : Thread nD τ).loc main_arg1)) := by
  rw [← V5]
  funext i
  show (V m c main_v5) (((cfg0.win 1).blk t0_0).view.emb i) = V m c main_v5 i
  refine congrArg (V m c main_v5) ?_
  have e : win0_1.index t0_0 = ![0, 0, 0] := idx1 t0_0
  blk_ext [e]
theorem iblk2 (c : Dev nD) : (iblk m c 2 t0_0 : Vec Ideal S72x2048x64 .bf16) = apart (m ((c.tc : Thread nD τ).loc main_arg2)) := by
  rw [← V8]
  funext i
  show (V m c main_v8) (((cfg0.win 2).blk t0_0).view.emb i) = V m c main_v8 i
  refine congrArg (V m c main_v8) ?_
  have e : win0_2.index t0_0 = ![0, 0, 0] := idx2 t0_0
  blk_ext [e]

/-- A store of the whole buffer leaves what it stored. -/
theorem canon1 (p : Vec Ideal S9x2048x512 .bf16) : View.canon [⟨r0_1, p⟩] = p := by
  funext y
  refine View.canon_apply_of_pieces p _ ?_ y (cover0_3 _ y)
  intro pc hpc
  rcases List.mem_cons.mp hpc with rfl | hpc
  · intro x
    exact congrArg p (funext fun a => Fin.ext (by
      match a with
      | ⟨0, _⟩ => show (x 0).val = 0 + 1 * (x 0).val; omega
      | ⟨1, _⟩ => show (x 1).val = 0 + 1 * (x 1).val; omega
      | ⟨2, _⟩ => show (x 2).val = 0 + 1 * (x 2).val; omega))
  nomatch hpc

theorem canon2 (p : Vec Ideal S9x8x64x2048 .fp8e4m3) : View.canon [⟨r0_2, p⟩] = p := by
  funext y
  refine View.canon_apply_of_pieces p _ ?_ y (cover0_4 _ y)
  intro pc hpc
  rcases List.mem_cons.mp hpc with rfl | hpc
  · intro x
    exact congrArg p (funext fun a => Fin.ext (by
      match a with
      | ⟨0, _⟩ => show (x 0).val = 0 + 1 * (x 0).val; omega
      | ⟨1, _⟩ => show (x 1).val = 0 + 1 * (x 1).val; omega
      | ⟨2, _⟩ => show (x 2).val = 0 + 1 * (x 2).val; omega
      | ⟨3, _⟩ => show (x 3).val = 0 + 1 * (x 3).val; omega))
  nomatch hpc

theorem canon3 (p : Vec Ideal S9x8x2048 .f32) : View.canon [⟨r0_3, p⟩] = p := by
  funext y
  refine View.canon_apply_of_pieces p _ ?_ y (cover0_5 _ y)
  intro pc hpc
  rcases List.mem_cons.mp hpc with rfl | hpc
  · intro x
    exact congrArg p (funext fun a => Fin.ext (by
      match a with
      | ⟨0, _⟩ => show (x 0).val = 0 + 1 * (x 0).val; omega
      | ⟨1, _⟩ => show (x 1).val = 0 + 1 * (x 1).val; omega
      | ⟨2, _⟩ => show (x 2).val = 0 + 1 * (x 2).val; omega))
  nomatch hpc

theorem canon4 (p : Vec Ideal S9x8x64 .f32) : View.canon [⟨r0_4, p⟩] = p := by
  funext y
  refine View.canon_apply_of_pieces p _ ?_ y (cover0_9 _ y)
  intro pc hpc
  rcases List.mem_cons.mp hpc with rfl | hpc
  · intro x
    exact congrArg p (funext fun a => Fin.ext (by
      match a with
      | ⟨0, _⟩ => show (x 0).val = 0 + 1 * (x 0).val; omega
      | ⟨1, _⟩ => show (x 1).val = 0 + 1 * (x 1).val; omega
      | ⟨2, _⟩ => show (x 2).val = 0 + 1 * (x 2).val; omega))
  nomatch hpc

theorem arr3 (c : Dev nD) : (dats m 0 c).arrAt 3 cfg0.N = out0_3 (iblk m c 0 t0_0) (iblk m c 1 t0_0) (iblk m c 2 t0_0) := by
  refine (dats m 0 c).arrAt_eq_of_after_last 3 t0_0 (by decide +kernel) _ fun j => ?_
  rw [after0_3]
  generalize out0_3 (iblk m c 0 t0_0) (iblk m c 1 t0_0) (iblk m c 2 t0_0) = z
  blk_simp

theorem arr4 (c : Dev nD) : (dats m 0 c).arrAt 4 cfg0.N = out0_4 (iblk m c 0 t0_0) (iblk m c 1 t0_0) (iblk m c 2 t0_0) := by
  refine (dats m 0 c).arrAt_eq_of_after_last 4 t0_0 (by decide +kernel) _ fun j => ?_
  rw [after0_4]
  generalize out0_4 (iblk m c 0 t0_0) (iblk m c 1 t0_0) (iblk m c 2 t0_0) = z
  blk_simp

theorem arr5 (c : Dev nD) : (dats m 0 c).arrAt 5 cfg0.N = out0_5 (iblk m c 0 t0_0) (iblk m c 1 t0_0) (iblk m c 2 t0_0) := by
  refine (dats m 0 c).arrAt_eq_of_after_last 5 t0_0 (by decide +kernel) _ fun j => ?_
  rw [after0_5]
  generalize out0_5 (iblk m c 0 t0_0) (iblk m c 1 t0_0) (iblk m c 2 t0_0) = z
  blk_simp

theorem arr6 (c : Dev nD) : (dats m 0 c).arrAt 6 cfg0.N = out0_6 (iblk m c 0 t0_0) (iblk m c 1 t0_0) (iblk m c 2 t0_0) := by
  refine (dats m 0 c).arrAt_eq_of_after_last 6 t0_0 (by decide +kernel) _ fun j => ?_
  rw [after0_6]
  generalize out0_6 (iblk m c 0 t0_0) (iblk m c 1 t0_0) (iblk m c 2 t0_0) = z
  blk_simp

theorem arr7 (c : Dev nD) : (dats m 0 c).arrAt 7 cfg0.N = out0_7 (iblk m c 0 t0_0) (iblk m c 1 t0_0) (iblk m c 2 t0_0) := by
  refine (dats m 0 c).arrAt_eq_of_after_last 7 t0_0 (by decide +kernel) _ fun j => ?_
  rw [after0_7]
  generalize out0_7 (iblk m c 0 t0_0) (iblk m c 1 t0_0) (iblk m c 2 t0_0) = z
  blk_simp

theorem arr8 (c : Dev nD) : (dats m 0 c).arrAt 8 cfg0.N = out0_8 (iblk m c 0 t0_0) (iblk m c 1 t0_0) (iblk m c 2 t0_0) := by
  refine (dats m 0 c).arrAt_eq_of_after_last 8 t0_0 (by decide +kernel) _ fun j => ?_
  rw [after0_8]
  generalize out0_8 (iblk m c 0 t0_0) (iblk m c 1 t0_0) (iblk m c 2 t0_0) = z
  blk_simp

theorem arr9 (c : Dev nD) : (dats m 0 c).arrAt 9 cfg0.N = out0_9 (iblk m c 0 t0_0) (iblk m c 1 t0_0) (iblk m c 2 t0_0) := by
  refine (dats m 0 c).arrAt_eq_of_after_last 9 t0_0 (by decide +kernel) _ fun j => ?_
  rw [after0_9]
  generalize out0_9 (iblk m c 0 t0_0) (iblk m c 1 t0_0) (iblk m c 2 t0_0) = z
  blk_simp

end Cert.ReferenceIdeal.Val

end
-- ==== Proof.RefRun.lean ====
/- The run of the reference over the reals: what its seven result arrays hold at the end. -/
module

public import proofs.«01_k».proof.Proof.RefArr

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

section Outs
variable (A0 A1 A2 : Arr) (x0 x1 x2 : Vec Ideal S9x2048x512 .bf16)

theorem codes_out (y : Vec Ideal S9x2048x512 .bf16) (A : Arr) (h : ∀ b i f, y (ix3 b i f) = (A b i f : EReal)) (b : Fin 9) (H : Fin 8) (d : Fin 64) (i : Fin 2048) :
    flipped (codeT (apart y)) (ix4 b H d i) = (tc A b H d i : EReal) := by
  rw [flipped_apply, codeT_apply _ (hds A) (apart_apply y A h)]
  simp only [hds_bh]; rfl

theorem vcodes_out (y : Vec Ideal S9x2048x512 .bf16) (A : Arr) (h : ∀ b i f, y (ix3 b i f) = (A b i f : EReal)) (b : Fin 9) (H : Fin 8) (d : Fin 64) (i : Fin 2048) :
    flipped (codeC (apart y)) (ix4 b H d i) = (cc A b H d i : EReal) := by
  rw [flipped_apply, codeC_apply _ (hds A) (apart_apply y A h)]
  simp only [hds_bh]; rfl

theorem scales_out (y : Vec Ideal S9x2048x512 .bf16) (A : Arr) (h : ∀ b i f, y (ix3 b i f) = (A b i f : EReal)) (b : Fin 9) (H : Fin 8) (i : Fin 2048) :
    k0_pay2 (rscale (tokMax (apart y))) (ix3 b H i) = (ts A b H i : EReal) := by
  have e : k0_pay2 (rscale (tokMax (apart y))) (ix3 b H i) = rscale (tokMax (apart y)) (ix3 (bh b H) i 0) := by
    generalize rscale (tokMax (apart y)) = z
    pointwise [k0_pay2]
    rfl
  rw [e, tokScale_apply _ (hds A) (apart_apply y A h)]
  simp only [hds_bh]; rfl

theorem vscales_out (y : Vec Ideal S9x2048x512 .bf16) (A : Arr) (h : ∀ b i f, y (ix3 b i f) = (A b i f : EReal)) (b : Fin 9) (H : Fin 8) (d : Fin 64) :
    k0_pay4 (rscale (chaMax (apart y))) (ix3 b H d) = (cs A b H d : EReal) := by
  have e : k0_pay4 (rscale (chaMax (apart y))) (ix3 b H d) = rscale (chaMax (apart y)) (ix3 (bh b H) 0 d) := by
    generalize rscale (chaMax (apart y)) = z
    pointwise [k0_pay4]
    rfl
  rw [e, chaScale_apply _ (hds A) (apart_apply y A h)]
  simp only [hds_bh]; rfl

theorem out_out (h0 : ∀ b i f, x0 (ix3 b i f) = (A0 b i f : EReal)) (h1 : ∀ b i f, x1 (ix3 b i f) = (A1 b i f : EReal)) (h2 : ∀ b i f, x2 (ix3 b i f) = (A2 b i f : EReal))
    (b : Fin 9) (H : Fin 8) (i : Fin 2048) (d : Fin 64) :
    joined (heads (weights (scores (codeT (apart x0)) (codeT (apart x1)) (rscale (tokMax (apart x0))) (rscale (tokMax (apart x1))))) (codeC (apart x2)) (rscale (chaMax (apart x2))))
      (ix3 b i ⟨64 * H.val + d.val, by omega⟩) = (att A0 A1 A2 b H d i : EReal) := by
  rw [joined_apply, heads_apply _ _ _ _ _ _
    (weights_apply _ _ (scores_apply _ _ _ _ _ _ _ _ (codeT_apply _ _ (apart_apply x0 A0 h0)) (codeT_apply _ _ (apart_apply x1 A1 h1))
      (tokScale_apply _ _ (apart_apply x0 A0 h0)) (tokScale_apply _ _ (apart_apply x1 A1 h1))))
    (codeC_apply _ _ (apart_apply x2 A2 h2)) (chaScale_apply _ _ (apart_apply x2 A2 h2))]
  simp only [hds_bh]
  unfold att
  congr 2
  funext j
  rw [Finset.sum_congr rfl fun d _ => mul_comm (code (hd A0 b H i d) _) (code (hd A1 b H j d) _)]
  show (∑ x, tc A1 b H x j * tc A0 b H x i) * (ts A0 b H i * (1 / 8)) * ts A1 b H j = _
  ring

end Outs

/-- The reference's run: every result array, over the reals, and the arguments unchanged. -/
theorem run (A0 A1 A2 : Dev nD → Arr) (h0 : ∀ c b i f, (m ((c.tc : Thread nD τ).loc main_arg0) : Vec Ideal S9x2048x512 .bf16) (ix3 b i f) = (A0 c b i f : EReal))
    (h1 : ∀ c b i f, (m ((c.tc : Thread nD τ).loc main_arg1) : Vec Ideal S9x2048x512 .bf16) (ix3 b i f) = (A1 c b i f : EReal))
    (h2 : ∀ c b i f, (m ((c.tc : Thread nD τ).loc main_arg2) : Vec Ideal S9x2048x512 .bf16) (ix3 b i f) = (A2 c b i f : EReal)) :
    θ_run defs (onTc (τ := τ) (main (F := Ideal))) ⟨m, fun _ => 0, ρ⟩ fun r => ∀ c : Dev nD,
      (∀ b H i d, (r.2.mem ((c.tc : Thread nD τ).loc main_v9_0) : Vec Ideal S9x2048x512 .bf16) (ix3 b i ⟨64 * H.val + d.val, by omega⟩) = (att (A0 c) (A1 c) (A2 c) b H d i : EReal))
      ∧ (∀ b H d i, (r.2.mem ((c.tc : Thread nD τ).loc main_v9_1) : Vec Ideal S9x8x64x2048 .fp8e4m3) (ix4 b H d i) = (tc (A0 c) b H d i : EReal))
      ∧ (∀ b H i, (r.2.mem ((c.tc : Thread nD τ).loc main_v9_2) : Vec Ideal S9x8x2048 .f32) (ix3 b H i) = (ts (A0 c) b H i : EReal))
      ∧ (∀ b H d i, (r.2.mem ((c.tc : Thread nD τ).loc main_v9_3) : Vec Ideal S9x8x64x2048 .fp8e4m3) (ix4 b H d i) = (tc (A1 c) b H d i : EReal))
      ∧ (∀ b H i, (r.2.mem ((c.tc : Thread nD τ).loc main_v9_4) : Vec Ideal S9x8x2048 .f32) (ix3 b H i) = (ts (A1 c) b H i : EReal))
      ∧ (∀ b H d i, (r.2.mem ((c.tc : Thread nD τ).loc main_v9_5) : Vec Ideal S9x8x64x2048 .fp8e4m3) (ix4 b H d i) = (cc (A2 c) b H d i : EReal))
      ∧ (∀ b H d, (r.2.mem ((c.tc : Thread nD τ).loc main_v9_6) : Vec Ideal S9x8x64 .f32) (ix3 b H d) = (cs (A2 c) b H d : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    refine ⟨fun b H i d => ?_, fun b H d i => ?_, fun b H i => ?_, fun b H d i => ?_, fun b H i => ?_, fun b H d i => ?_, fun b H d => ?_,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩
    · refine (congrFun (((h c).1 3).trans (arr3 m c)) _).trans ?_
      rw [out0_3, canon1, pay21_eq, pay24_eq, pay25_eq, pay28_eq, pay29_eq, vcode_eq, vscale_eq', ld_whole, ld_whole, ld_whole, iblk0, iblk1, iblk2]
      exact out_out _ _ _ _ _ _ (h0 c) (h1 c) (h2 c) b H i d
    · refine (congrFun (((h c).1 4).trans (arr4 m c)) _).trans ?_
      rw [out0_4, canon2, pay22_eq, pay24_eq, ld_whole, iblk0]
      exact codes_out _ _ (h0 c) b H d i
    · refine (congrFun (((h c).1 5).trans (arr5 m c)) _).trans ?_
      rw [out0_5, canon3, pay25_eq, ld_whole, iblk0]
      exact scales_out _ _ (h0 c) b H i
    · refine (congrFun (((h c).1 6).trans (arr6 m c)) _).trans ?_
      rw [out0_6, canon2, pay23_eq, pay28_eq, ld_whole, iblk1]
      exact codes_out _ _ (h1 c) b H d i
    · refine (congrFun (((h c).1 7).trans (arr7 m c)) _).trans ?_
      rw [out0_7, canon3, pay29_eq, ld_whole, iblk1]
      exact scales_out _ _ (h1 c) b H i
    · refine (congrFun (((h c).1 8).trans (arr8 m c)) _).trans ?_
      rw [out0_8, canon2, pay1_eq, vcode_eq, ld_whole, iblk2]
      exact vcodes_out _ _ (h2 c) b H d i
    · refine (congrFun (((h c).1 9).trans (arr9 m c)) _).trans ?_
      rw [out0_9, canon4, vscale_eq', ld_whole, iblk2]
      exact vscales_out _ _ (h2 c) b H d)
    (run_main m ρ)

end Cert.ReferenceIdeal.Val

end
-- ==== Proof.PreGood.lean ====
/- What the precondition says of one argument: every element is zero or of a magnitude between two powers of two. -/
module

public import proofs.«01_k».proof.Proof.Spec
public import proofs.«01_k».proof.Pre_in_range
public import Idealize.ShloMosaic.Lib.Pointwise
public import Idealize.ShloMosaic.Lib.ReduceAll
public import Idealize.ShloMosaic.Lib.Claim

@[expose] public section

set_option maxRecDepth 16384

noncomputable section

namespace Cert.Pre_in_range

open Idealize.ShloMosaic Cert.Spec

variable [Facts]
open Facts

/-- The test of one array, element by element. -/
def inRange (x : FVec Ideal S9x2048x512 .bf16) : IVec S9x2048x512 1 :=
  ori (cmpf .oeq (Host.absf (extf .f32 x bitsLt_bf16_f32)) (broadcastInDim S9x2048x512 ![] bcast_S_S9x2048x512 (constant (F := Ideal) S_ .f32 0x00000000#32)))
    (andi (cmpf .oge (Host.absf (extf .f32 x bitsLt_bf16_f32)) (broadcastInDim S9x2048x512 ![] bcast_S_S9x2048x512 (constant (F := Ideal) S_ .f32 0x05000000#32)))
      (cmpf .ole (Host.absf (extf .f32 x bitsLt_bf16_f32)) (broadcastInDim S9x2048x512 ![] bcast_S_S9x2048x512 (constant (F := Ideal) S_ .f32 0x7F7F0000#32))))

theorem lo_lit : Ideal.ofBits FTy.f32 0x05000000#32 = (((2 : ℝ) ^ (-117 : ℤ) : ℝ) : EReal) := by
  simp [Ideal.ofBits, Ideal.ieee, -EReal.coe_mul]; norm_num

theorem hi_lit : ∃ h : ℝ, Ideal.ofBits FTy.f32 0x7F7F0000#32 = (h : EReal) ∧ h < (2 : ℝ) ^ (128 : ℤ) := by
  refine ⟨_, by simp [Ideal.ofBits, Ideal.ieee, -EReal.coe_mul]; rfl, ?_⟩
  norm_num

theorem ori_one (a b : BitVec 1) (h : IntOp.ori a b = 1#1) : a = 1#1 ∨ b = 1#1 := by
  revert a b; decide

theorem cmp_oeq {x y : EReal} (h : Ideal.cmp .oeq x y = 1#1) : x = y := by
  by_contra hn; simp [Ideal.cmp, hn] at h
theorem cmp_oge {x y : EReal} (h : Ideal.cmp .oge x y = 1#1) : y ≤ x := by
  by_contra hn; simp [Ideal.cmp, hn] at h
theorem cmp_ole {x y : EReal} (h : Ideal.cmp .ole x y = 1#1) : x ≤ y := by
  by_contra hn; simp [Ideal.cmp, hn] at h

theorem good_of_inRange (x : FVec Ideal S9x2048x512 .bf16) (h : ∀ i, inRange x i = 1#1) (i : S9x2048x512.Idx) :
    ∃ r : ℝ, x i = (r : EReal) ∧ Ok |r| := by
  have hi : IntOp.ori (Ideal.cmp .oeq (max (x i) (-(x i))) (Ideal.ofBits .f32 0x00000000#32))
      (IntOp.andi (Ideal.cmp .oge (max (x i) (-(x i))) (Ideal.ofBits .f32 0x05000000#32)) (Ideal.cmp .ole (max (x i) (-(x i))) (Ideal.ofBits .f32 0x7F7F0000#32))) = 1#1 := h i
  have hz : Ideal.ofBits FTy.f32 0x00000000#32 = 0 := by simp [Ideal.ofBits, Ideal.ieee]
  obtain ⟨hh, eh, hlt⟩ := hi_lit
  generalize x i = y at hi ⊢
  rcases ori_one _ _ hi with e | e
  · have e := cmp_oeq e
    rw [hz] at e
    induction y using EReal.rec with
    | bot => simp at e
    | top => simp at e
    | coe r =>
      refine ⟨r, rfl, Or.inl ?_⟩
      rw [abs_coe] at e; exact_mod_cast e
  · obtain ⟨e1, e2⟩ := IntOp.andi_eq_one.1 e
    have e1 := cmp_oge e1
    have e2 := cmp_ole e2
    rw [lo_lit] at e1; rw [eh] at e2
    induction y using EReal.rec with
    | bot => simp at e2
    | top => simp at e2
    | coe r =>
      refine ⟨r, rfl, Or.inr ⟨?_, ?_⟩⟩
      · rw [abs_coe] at e1; exact_mod_cast e1
      · rw [abs_coe] at e2; exact lt_of_le_of_lt (by exact_mod_cast e2) hlt

theorem good (x k v : FVec Ideal S9x2048x512 .bf16) (h : fn (F := Ideal) x k v = fun _ => 1#1) :
    (∀ i, ∃ r : ℝ, x i = (r : EReal) ∧ Ok |r|) ∧ (∀ i, ∃ r : ℝ, k i = (r : EReal) ∧ Ok |r|) ∧ (∀ i, ∃ r : ℝ, v i = (r : EReal) ∧ Ok |r|) := by
  have h' := congrFun h (Shape.Idx.first h_S_)
  have e : fn (F := Ideal) x k v (Shape.Idx.first h_S_)
      = IntOp.andi (IntOp.andi (Host.reduce IntOp.andi (inRange x) (constantI S_ 1 1#1) reducesTo_S9x2048x512_S_d0_1_2 h_S_ (Shape.Idx.first h_S_))
          (Host.reduce IntOp.andi (inRange k) (constantI S_ 1 1#1) reducesTo_S9x2048x512_S_d0_1_2 h_S_ (Shape.Idx.first h_S_)))
        (Host.reduce IntOp.andi (inRange v) (constantI S_ 1 1#1) reducesTo_S9x2048x512_S_d0_1_2 h_S_ (Shape.Idx.first h_S_)) := rfl
  rw [e] at h'
  obtain ⟨h1, h2⟩ := IntOp.andi_eq_one.1 h'
  obtain ⟨h0, h1⟩ := IntOp.andi_eq_one.1 h1
  have sub : Subsingleton S_.Idx := ⟨fun a b => funext fun i => i.elim0⟩
  exact ⟨good_of_inRange x fun i => Host.reduce_andi_all _ _ _ _ _ h0 i, good_of_inRange k fun i => Host.reduce_andi_all _ _ _ _ _ h1 i,
    good_of_inRange v fun i => Host.reduce_andi_all _ _ _ _ _ h2 i⟩

end Cert.Pre_in_range

end
-- ==== Proof.Algebraic.lean ====
/- Over the reals the idealized kernel and the reference end with the same seven arrays. -/
module

public import proofs.«01_k».proof.Defs
public import proofs.«01_k».proof.Proof.KEnd
public import proofs.«01_k».proof.Proof.RefRun
public import proofs.«01_k».proof.Proof.PreGood
public import proofs.«01_k».proof.Proof.Gen.Pre_in_range

@[expose] public section

set_option maxRecDepth 16384

noncomputable section

namespace Cert.Alg

open Cert.Spec
open Idealize.ShloMosaic Idealize.ShloMosaic.TcCoe
open Idealize.SL Idealize.SL.Sem

/-- The result arrays, from the real arrays. -/
def outA (A0 A1 A2 : Arr) : (⟨3, ![9, 2048, 512]⟩ : Shape).Idx → EReal := fun y =>
  (att A0 A1 A2 (y 0) ⟨(y 2).val / 64, by have : (y 2).val < 512 := (y 2).isLt; omega⟩ ⟨(y 2).val % 64, by omega⟩ (y 1) : ℝ)
def four (g : Fin 9 → Fin 8 → Fin 64 → Fin 2048 → ℝ) : (⟨4, ![9, 8, 64, 2048]⟩ : Shape).Idx → EReal := fun y => (g (y 0) (y 1) (y 2) (y 3) : ℝ)
def three {n : ℕ} (g : Fin 9 → Fin 8 → Fin n → ℝ) : (⟨3, ![9, 8, n]⟩ : Shape).Idx → EReal := fun y => (g (y 0) (y 1) (y 2) : ℝ)

theorem eq_outA (A0 A1 A2 : Arr) (X : (⟨3, ![9, 2048, 512]⟩ : Shape).Idx → EReal)
    (h : ∀ (b : Fin 9) (H : Fin 8) (i : Fin 2048) (d : Fin 64), X (ix3 b i ⟨64 * H.val + d.val, by omega⟩) = (att A0 A1 A2 b H d i : ℝ)) : X = outA A0 A1 A2 := by
  funext y
  have hl : (y 2).val < 512 := (y 2).isLt
  refine Eq.trans (congrArg X ?_) (h (y 0) ⟨(y 2).val / 64, by omega⟩ (y 1) ⟨(y 2).val % 64, by omega⟩)
  refine (eq_ix3 y).trans (congrArg (ix3 (y 0) (y 1)) (Fin.ext ?_))
  show (y 2).val = 64 * ((y 2).val / 64) + (y 2).val % 64
  omega

theorem eq_four (g : Fin 9 → Fin 8 → Fin 64 → Fin 2048 → ℝ) (X : (⟨4, ![9, 8, 64, 2048]⟩ : Shape).Idx → EReal)
    (h : ∀ b H d i, X (ix4 b H d i) = (g b H d i : ℝ)) : X = four g :=
  funext fun y => (congrArg X (eq_ix4 y)).trans (h (y 0) (y 1) (y 2) (y 3))

theorem eq_three {n : ℕ} (g : Fin 9 → Fin 8 → Fin n → ℝ) (X : (⟨3, ![9, 8, n]⟩ : Shape).Idx → EReal)
    (h : ∀ b H d, X (ix3 b H d) = (g b H d : ℝ)) : X = three g :=
  funext fun y => (congrArg X (eq_ix3 y)).trans (h (y 0) (y 1) (y 2))

open Cert.KernelIdeal.Val in
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hg := fun c : Dev Cert.KernelIdeal.nD => Cert.Pre_in_range.good _ _ _ (hpre c)
  have hg0 : ∀ c : Dev Cert.KernelIdeal.nD, Good (m ((c.tc : Thread Cert.KernelIdeal.nD Cert.KernelIdeal.τ).loc Cert.KernelIdeal.main_arg0)) := fun c b i f => (hg c).1 _
  have hg1 : ∀ c : Dev Cert.KernelIdeal.nD, Good (m ((c.tc : Thread Cert.KernelIdeal.nD Cert.KernelIdeal.τ).loc Cert.KernelIdeal.main_arg1)) := fun c b i f => (hg c).2.1 _
  have hg2 : ∀ c : Dev Cert.KernelIdeal.nD, Good (m ((c.tc : Thread Cert.KernelIdeal.nD Cert.KernelIdeal.τ).loc Cert.KernelIdeal.main_arg2)) := fun c b i f => (hg c).2.2 _
  refine ⟨fun c => outA (a0 m c) (a1 m c) (a2 m c), fun c => four (tc (a0 m c)), fun c => three (ts (a0 m c)), fun c => four (tc (a1 m c)),
    fun c => three (ts (a1 m c)), fun c => four (cc (a2 m c)), fun c => three (cs (a2 m c)), ?_, ?_⟩
  · refine (θ_run _ _ _).mono (fun r h c => ?_) (Cert.KernelIdeal.Val.run m g hg0 hg1 hg2)
    obtain ⟨h0, h1, h2, h3, h4, h5, h6, h7⟩ := h c
    exact ⟨eq_outA _ _ _ _ h0, eq_four _ _ h1, eq_three _ _ h2, eq_four _ _ h3, eq_three _ _ h4, eq_four _ _ h5, eq_three _ _ h6, h7⟩
  · refine (θ_run _ _ _).mono (fun r h c => ?_) (Cert.ReferenceIdeal.Val.run m' g' (a0 m) (a1 m) (a2 m)
      (fun c b i f => (congrFun (hargs c).1 _).trans ((hg0 c).eq b i f)) (fun c b i f => (congrFun (hargs c).2.1 _).trans ((hg1 c).eq b i f))
      (fun c b i f => (congrFun (hargs c).2.2 _).trans ((hg2 c).eq b i f)))
    obtain ⟨h0, h1, h2, h3, h4, h5, h6, h7⟩ := h c
    exact ⟨eq_outA _ _ _ _ h0, eq_four _ _ h1, eq_three _ _ h2, eq_four _ _ h3, eq_three _ _ h4, eq_four _ _ h5, eq_three _ _ h6, h7⟩

end Cert.Alg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.KernelFrame
public import proofs.«01_k».proof.Proof.KernelIdealFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
    fun m ρ _ => Cert.Kernel.Run.frame m ρ,
    fun m ρ _ => Cert.KernelIdeal.FrameRun.frame m ρ,
    fun m ρ _ => Cert.KernelIdeal.FrameRun.frame m ρ,
    fun m ρ _ => Cert.ReferenceIdeal.Gen.frame m ρ,
    fun m ρ _ => Cert.ReferenceIdeal.Gen.frame m ρ,
    IdealRules.named_const.statement Cert.KernelIdeal.κ "scale_log2e" .f32 0x3E38AA3B#32 _ rfl,
    Cert.Alg.algebraic⟩

end Cert.Proof

end
